-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![2, 4096, 2048]⟩ (Layout.meshBlock [2, 2] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![2048, 2048]⟩ ⟨2, ![4096, 2048]⟩ (Layout.meshBlock [2, 2] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x2048 : Shape := ⟨3, ![1, 4096, 2048]⟩
abbrev S2048 : Shape := ⟨1, ![2048]⟩
abbrev S2048x2048 : Shape := ⟨2, ![2048, 2048]⟩
abbrev S1024x2048 : Shape := ⟨2, ![1024, 2048]⟩
abbrev S18 : Shape := ⟨1, ![18]⟩
abbrev S_ : Shape := ⟨0, ![]⟩
abbrev S1 : Shape := ⟨1, ![1]⟩
abbrev S16x2048 : Shape := ⟨2, ![16, 2048]⟩
abbrev S1x16x2048 : Shape := ⟨3, ![1, 16, 2048]⟩
abbrev S48x2048 : Shape := ⟨2, ![48, 2048]⟩
abbrev S1x48x2048 : Shape := ⟨3, ![1, 48, 2048]⟩
abbrev S64x2048 : Shape := ⟨2, ![64, 2048]⟩
abbrev S1x64x2048 : Shape := ⟨3, ![1, 64, 2048]⟩
abbrev S16 : Shape := ⟨1, ![16]⟩
abbrev S16x1 : Shape := ⟨2, ![16, 1]⟩
abbrev S1x2048 : Shape := ⟨2, ![1, 2048]⟩
abbrev S48 : Shape := ⟨1, ![48]⟩
abbrev S48x1 : Shape := ⟨2, ![48, 1]⟩
abbrev S64 : Shape := ⟨1, ![64]⟩
abbrev S64x1 : Shape := ⟨2, ![64, 1]⟩

abbrev nBuf : Space → Nat
  | .hbm => 3
  | .vmem => 7
  | .smem => 0
  | _ => 0

abbrev bufTy : (tb : Table) → Fin (tcTables nBuf tb) → BufTy
  | .hbm, ⟨0, _⟩ => ⟨S1x4096x2048, .f32⟩
  | .hbm, ⟨1, _⟩ => ⟨S2048, .f32⟩
  | .hbm, ⟨2, _⟩ => ⟨S2048x2048, .bf16⟩
  | .local _ .vmem, ⟨0, _⟩ => ⟨S2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | _, _ => ⟨S1x4096x2048, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 145 → Bool
  | ⟨i, _⟩ => dmaSemScopedAt i

abbrev sig : RefSig :=
  (ofTc nBuf bufTy 1 145 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5 : BitVec 32 := 2#32
  let v9 : BitVec 32 := Scalar.muli v2 c2_i32_5
  let v10 : BitVec 32 := Scalar.addi c0_i32 v9
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6 : BitVec 32 := 1#32
  let v11 : BitVec 32 := Scalar.muli v6 c1_i32_6
  let v12 : BitVec 32 := Scalar.addi v10 v11
  v12.toNat
def k0_dev2 (d0 : Dev nD) : Nat :=
  let c0_i32_9 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_8 : BitVec 32 := 2#32
  let v13 : BitVec 32 := Scalar.muli v7 c2_i32_8
  let v14 : BitVec 32 := Scalar.addi c0_i32_9 v13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v15 : BitVec 32 := Scalar.muli v5 c1_i32_10
  let v16 : BitVec 32 := Scalar.addi v14 v15
  v16.toNat
def k0_off1 (d0 : Dev nD) (c0_i32_12 : BitVec 32) : Fin 3 → Nat :=
  let c0_i32_13 : BitVec 32 := 0#32
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c2048_i32 : BitVec 32 := 2048#32
  let v17 : BitVec 32 := Scalar.muli v6 c2048_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v18 : BitVec 32 := Scalar.muli v2 c1024_i32
  let v19 : BitVec 32 := Scalar.addi v17 v18
  let v20 : BitVec 32 := Scalar.addi v19 c0_i32_12
  let c0_i32_17 : BitVec 32 := 0#32
  ![0, v20.toNat, 0]
def k0_off2 (d0 : Dev nD) (c16_i32 : BitVec 32) : Fin 3 → Nat :=
  let c0_i32_20 : BitVec 32 := 0#32
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c2048_i32_18 : BitVec 32 := 2048#32
  let v26 : BitVec 32 := Scalar.muli v6 c2048_i32_18
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_19 : BitVec 32 := 1024#32
  let v27 : BitVec 32 := Scalar.muli v2 c1024_i32_19
  let v28 : BitVec 32 := Scalar.addi v26 v27
  let v29 : BitVec 32 := Scalar.addi v28 c16_i32
  let c0_i32_24 : BitVec 32 := 0#32
  ![0, v29.toNat, 0]
def k0_off3 (d0 : Dev nD) (c64_i32 : BitVec 32) : Fin 3 → Nat :=
  let c0_i32_27 : BitVec 32 := 0#32
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c2048_i32_25 : BitVec 32 := 2048#32
  let v35 : BitVec 32 := Scalar.muli v6 c2048_i32_25
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_26 : BitVec 32 := 1024#32
  let v36 : BitVec 32 := Scalar.muli v2 c1024_i32_26
  let v37 : BitVec 32 := Scalar.addi v35 v36
  let v38 : BitVec 32 := Scalar.addi v37 c64_i32
  let c0_i32_31 : BitVec 32 := 0#32
  ![0, v38.toNat, 0]
def k0_off4 (d0 : Dev nD) (c0_i32_125 : BitVec 32) : Fin 3 → Nat :=
  let c0_i32_126 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32_123 : BitVec 32 := 2048#32
  let v179 : BitVec 32 := Scalar.muli v5 c2048_i32_123
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_124 : BitVec 32 := 1024#32
  let v180 : BitVec 32 := Scalar.muli v2 c1024_i32_124
  let v181 : BitVec 32 := Scalar.addi v179 v180
  let v182 : BitVec 32 := Scalar.addi v181 c0_i32_125
  let c0_i32_130 : BitVec 32 := 0#32
  ![0, v182.toNat, 0]
def k0_off5 (d0 : Dev nD) (c16_i32_133 : BitVec 32) : Fin 3 → Nat :=
  let c0_i32_134 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32_131 : BitVec 32 := 2048#32
  let v188 : BitVec 32 := Scalar.muli v5 c2048_i32_131
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_132 : BitVec 32 := 1024#32
  let v189 : BitVec 32 := Scalar.muli v2 c1024_i32_132
  let v190 : BitVec 32 := Scalar.addi v188 v189
  let v191 : BitVec 32 := Scalar.addi v190 c16_i32_133
  let c0_i32_138 : BitVec 32 := 0#32
  ![0, v191.toNat, 0]
def k0_off6 (d0 : Dev nD) (c64_i32_141 : BitVec 32) : Fin 3 → Nat :=
  let c0_i32_142 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32_139 : BitVec 32 := 2048#32
  let v197 : BitVec 32 := Scalar.muli v5 c2048_i32_139
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_140 : BitVec 32 := 1024#32
  let v198 : BitVec 32 := Scalar.muli v2 c1024_i32_140
  let v199 : BitVec 32 := Scalar.addi v197 v198
  let v200 : BitVec 32 := Scalar.addi v199 c64_i32_141
  let c0_i32_146 : BitVec 32 := 0#32
  ![0, v200.toNat, 0]
def k0_dev3 (d0 : Dev nD) : Nat :=
  let c0_i32_278 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_277 : BitVec 32 := 2#32
  let v351 : BitVec 32 := Scalar.muli v2 c2_i32_277
  let v352 : BitVec 32 := Scalar.addi c0_i32_278 v351
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_279 : BitVec 32 := 1#32
  let v353 : BitVec 32 := Scalar.muli v6 c1_i32_279
  let v354 : BitVec 32 := Scalar.addi v352 v353
  v354.toNat
def k0_dev4 (d0 : Dev nD) : Nat :=
  let c0_i32_295 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_294 : BitVec 32 := 2#32
  let v371 : BitVec 32 := Scalar.muli v2 c2_i32_294
  let v372 : BitVec 32 := Scalar.addi c0_i32_295 v371
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_296 : BitVec 32 := 1#32
  let v373 : BitVec 32 := Scalar.muli v6 c1_i32_296
  let v374 : BitVec 32 := Scalar.addi v372 v373
  v374.toNat
def k0_dev5 (d0 : Dev nD) : Nat :=
  let c0_i32_312 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_311 : BitVec 32 := 2#32
  let v391 : BitVec 32 := Scalar.muli v2 c2_i32_311
  let v392 : BitVec 32 := Scalar.addi c0_i32_312 v391
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_313 : BitVec 32 := 1#32
  let v393 : BitVec 32 := Scalar.muli v6 c1_i32_313
  let v394 : BitVec 32 := Scalar.addi v392 v393
  v394.toNat
def k0_dev6 (d0 : Dev nD) : Nat :=
  let c0_i32_329 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_328 : BitVec 32 := 2#32
  let v411 : BitVec 32 := Scalar.muli v2 c2_i32_328
  let v412 : BitVec 32 := Scalar.addi c0_i32_329 v411
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_330 : BitVec 32 := 1#32
  let v413 : BitVec 32 := Scalar.muli v6 c1_i32_330
  let v414 : BitVec 32 := Scalar.addi v412 v413
  v414.toNat
def k0_dev7 (d0 : Dev nD) : Nat :=
  let c0_i32_346 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_345 : BitVec 32 := 2#32
  let v431 : BitVec 32 := Scalar.muli v2 c2_i32_345
  let v432 : BitVec 32 := Scalar.addi c0_i32_346 v431
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_347 : BitVec 32 := 1#32
  let v433 : BitVec 32 := Scalar.muli v6 c1_i32_347
  let v434 : BitVec 32 := Scalar.addi v432 v433
  v434.toNat
def k0_dev8 (d0 : Dev nD) : Nat :=
  let c0_i32_363 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_362 : BitVec 32 := 2#32
  let v451 : BitVec 32 := Scalar.muli v2 c2_i32_362
  let v452 : BitVec 32 := Scalar.addi c0_i32_363 v451
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_364 : BitVec 32 := 1#32
  let v453 : BitVec 32 := Scalar.muli v6 c1_i32_364
  let v454 : BitVec 32 := Scalar.addi v452 v453
  v454.toNat
def k0_dev9 (d0 : Dev nD) : Nat :=
  let c0_i32_380 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_379 : BitVec 32 := 2#32
  let v471 : BitVec 32 := Scalar.muli v2 c2_i32_379
  let v472 : BitVec 32 := Scalar.addi c0_i32_380 v471
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_381 : BitVec 32 := 1#32
  let v473 : BitVec 32 := Scalar.muli v6 c1_i32_381
  let v474 : BitVec 32 := Scalar.addi v472 v473
  v474.toNat
def k0_dev10 (d0 : Dev nD) : Nat :=
  let c0_i32_397 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_396 : BitVec 32 := 2#32
  let v491 : BitVec 32 := Scalar.muli v2 c2_i32_396
  let v492 : BitVec 32 := Scalar.addi c0_i32_397 v491
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_398 : BitVec 32 := 1#32
  let v493 : BitVec 32 := Scalar.muli v6 c1_i32_398
  let v494 : BitVec 32 := Scalar.addi v492 v493
  v494.toNat
def k0_dev11 (d0 : Dev nD) : Nat :=
  let c0_i32_414 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_413 : BitVec 32 := 2#32
  let v511 : BitVec 32 := Scalar.muli v2 c2_i32_413
  let v512 : BitVec 32 := Scalar.addi c0_i32_414 v511
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_415 : BitVec 32 := 1#32
  let v513 : BitVec 32 := Scalar.muli v6 c1_i32_415
  let v514 : BitVec 32 := Scalar.addi v512 v513
  v514.toNat
def k0_dev12 (d0 : Dev nD) : Nat :=
  let c0_i32_431 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_430 : BitVec 32 := 2#32
  let v531 : BitVec 32 := Scalar.muli v2 c2_i32_430
  let v532 : BitVec 32 := Scalar.addi c0_i32_431 v531
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_432 : BitVec 32 := 1#32
  let v533 : BitVec 32 := Scalar.muli v6 c1_i32_432
  let v534 : BitVec 32 := Scalar.addi v532 v533
  v534.toNat
def k0_dev13 (d0 : Dev nD) : Nat :=
  let c0_i32_448 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_447 : BitVec 32 := 2#32
  let v551 : BitVec 32 := Scalar.muli v2 c2_i32_447
  let v552 : BitVec 32 := Scalar.addi c0_i32_448 v551
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_449 : BitVec 32 := 1#32
  let v553 : BitVec 32 := Scalar.muli v6 c1_i32_449
  let v554 : BitVec 32 := Scalar.addi v552 v553
  v554.toNat
def k0_dev14 (d0 : Dev nD) : Nat :=
  let c0_i32_465 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_464 : BitVec 32 := 2#32
  let v571 : BitVec 32 := Scalar.muli v2 c2_i32_464
  let v572 : BitVec 32 := Scalar.addi c0_i32_465 v571
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_466 : BitVec 32 := 1#32
  let v573 : BitVec 32 := Scalar.muli v6 c1_i32_466
  let v574 : BitVec 32 := Scalar.addi v572 v573
  v574.toNat
def k0_dev15 (d0 : Dev nD) : Nat :=
  let c0_i32_482 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_481 : BitVec 32 := 2#32
  let v591 : BitVec 32 := Scalar.muli v2 c2_i32_481
  let v592 : BitVec 32 := Scalar.addi c0_i32_482 v591
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_483 : BitVec 32 := 1#32
  let v593 : BitVec 32 := Scalar.muli v6 c1_i32_483
  let v594 : BitVec 32 := Scalar.addi v592 v593
  v594.toNat
def k0_dev16 (d0 : Dev nD) : Nat :=
  let c0_i32_499 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_498 : BitVec 32 := 2#32
  let v611 : BitVec 32 := Scalar.muli v2 c2_i32_498
  let v612 : BitVec 32 := Scalar.addi c0_i32_499 v611
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_500 : BitVec 32 := 1#32
  let v613 : BitVec 32 := Scalar.muli v6 c1_i32_500
  let v614 : BitVec 32 := Scalar.addi v612 v613
  v614.toNat
def k0_dev17 (d0 : Dev nD) : Nat :=
  let c0_i32_516 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_515 : BitVec 32 := 2#32
  let v631 : BitVec 32 := Scalar.muli v2 c2_i32_515
  let v632 : BitVec 32 := Scalar.addi c0_i32_516 v631
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_517 : BitVec 32 := 1#32
  let v633 : BitVec 32 := Scalar.muli v6 c1_i32_517
  let v634 : BitVec 32 := Scalar.addi v632 v633
  v634.toNat
def k0_dev18 (d0 : Dev nD) : Nat :=
  let c0_i32_533 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_532 : BitVec 32 := 2#32
  let v651 : BitVec 32 := Scalar.muli v2 c2_i32_532
  let v652 : BitVec 32 := Scalar.addi c0_i32_533 v651
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_534 : BitVec 32 := 1#32
  let v653 : BitVec 32 := Scalar.muli v6 c1_i32_534
  let v654 : BitVec 32 := Scalar.addi v652 v653
  v654.toNat
def k0_dev19 (d0 : Dev nD) : Nat :=
  let c0_i32_550 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_549 : BitVec 32 := 2#32
  let v671 : BitVec 32 := Scalar.muli v2 c2_i32_549
  let v672 : BitVec 32 := Scalar.addi c0_i32_550 v671
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_551 : BitVec 32 := 1#32
  let v673 : BitVec 32 := Scalar.muli v6 c1_i32_551
  let v674 : BitVec 32 := Scalar.addi v672 v673
  v674.toNat
def k0_dev20 (d0 : Dev nD) : Nat :=
  let c0_i32_567 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_566 : BitVec 32 := 2#32
  let v691 : BitVec 32 := Scalar.muli v2 c2_i32_566
  let v692 : BitVec 32 := Scalar.addi c0_i32_567 v691
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_568 : BitVec 32 := 1#32
  let v693 : BitVec 32 := Scalar.muli v6 c1_i32_568
  let v694 : BitVec 32 := Scalar.addi v692 v693
  v694.toNat
def k0_dev21 (d0 : Dev nD) : Nat :=
  let c0_i32_599 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_598 : BitVec 32 := 2#32
  let v737 : BitVec 32 := Scalar.muli v7 c2_i32_598
  let v738 : BitVec 32 := Scalar.addi c0_i32_599 v737
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_600 : BitVec 32 := 1#32
  let v739 : BitVec 32 := Scalar.muli v5 c1_i32_600
  let v740 : BitVec 32 := Scalar.addi v738 v739
  v740.toNat
def k0_off7 (d0 : Dev nD) (c0_i32_606 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_605 : BitVec 32 := 1024#32
  let v747 : BitVec 32 := Scalar.muli v2 c1024_i32_605
  let v748 : BitVec 32 := Scalar.addi v747 c0_i32_606
  let c0_i32_608 : BitVec 32 := 0#32
  ![v748.toNat, 0]
def k0_dev22 (d0 : Dev nD) : Nat :=
  let c0_i32_638 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_637 : BitVec 32 := 2#32
  let v789 : BitVec 32 := Scalar.muli v7 c2_i32_637
  let v790 : BitVec 32 := Scalar.addi c0_i32_638 v789
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_639 : BitVec 32 := 1#32
  let v791 : BitVec 32 := Scalar.muli v5 c1_i32_639
  let v792 : BitVec 32 := Scalar.addi v790 v791
  v792.toNat
def k0_off8 (d0 : Dev nD) (c16_i32_645 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_644 : BitVec 32 := 1024#32
  let v799 : BitVec 32 := Scalar.muli v2 c1024_i32_644
  let v800 : BitVec 32 := Scalar.addi v799 c16_i32_645
  let c0_i32_647 : BitVec 32 := 0#32
  ![v800.toNat, 0]
def k0_dev23 (d0 : Dev nD) : Nat :=
  let c0_i32_677 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_676 : BitVec 32 := 2#32
  let v841 : BitVec 32 := Scalar.muli v7 c2_i32_676
  let v842 : BitVec 32 := Scalar.addi c0_i32_677 v841
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_678 : BitVec 32 := 1#32
  let v843 : BitVec 32 := Scalar.muli v5 c1_i32_678
  let v844 : BitVec 32 := Scalar.addi v842 v843
  v844.toNat
def k0_off9 (d0 : Dev nD) (c64_i32_684 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_683 : BitVec 32 := 1024#32
  let v851 : BitVec 32 := Scalar.muli v2 c1024_i32_683
  let v852 : BitVec 32 := Scalar.addi v851 c64_i32_684
  let c0_i32_686 : BitVec 32 := 0#32
  ![v852.toNat, 0]
def k0_dev24 (d0 : Dev nD) : Nat :=
  let c0_i32_716 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_715 : BitVec 32 := 2#32
  let v893 : BitVec 32 := Scalar.muli v7 c2_i32_715
  let v894 : BitVec 32 := Scalar.addi c0_i32_716 v893
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_717 : BitVec 32 := 1#32
  let v895 : BitVec 32 := Scalar.muli v5 c1_i32_717
  let v896 : BitVec 32 := Scalar.addi v894 v895
  v896.toNat
def k0_dev25 (d0 : Dev nD) : Nat :=
  let c0_i32_755 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_754 : BitVec 32 := 2#32
  let v945 : BitVec 32 := Scalar.muli v7 c2_i32_754
  let v946 : BitVec 32 := Scalar.addi c0_i32_755 v945
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_756 : BitVec 32 := 1#32
  let v947 : BitVec 32 := Scalar.muli v5 c1_i32_756
  let v948 : BitVec 32 := Scalar.addi v946 v947
  v948.toNat
def k0_dev26 (d0 : Dev nD) : Nat :=
  let c0_i32_794 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_793 : BitVec 32 := 2#32
  let v997 : BitVec 32 := Scalar.muli v7 c2_i32_793
  let v998 : BitVec 32 := Scalar.addi c0_i32_794 v997
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_795 : BitVec 32 := 1#32
  let v999 : BitVec 32 := Scalar.muli v5 c1_i32_795
  let v1000 : BitVec 32 := Scalar.addi v998 v999
  v1000.toNat
def k0_dev27 (d0 : Dev nD) : Nat :=
  let c0_i32_833 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_832 : BitVec 32 := 2#32
  let v1049 : BitVec 32 := Scalar.muli v7 c2_i32_832
  let v1050 : BitVec 32 := Scalar.addi c0_i32_833 v1049
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_834 : BitVec 32 := 1#32
  let v1051 : BitVec 32 := Scalar.muli v5 c1_i32_834
  let v1052 : BitVec 32 := Scalar.addi v1050 v1051
  v1052.toNat
def k0_dev28 (d0 : Dev nD) : Nat :=
  let c0_i32_872 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_871 : BitVec 32 := 2#32
  let v1101 : BitVec 32 := Scalar.muli v7 c2_i32_871
  let v1102 : BitVec 32 := Scalar.addi c0_i32_872 v1101
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_873 : BitVec 32 := 1#32
  let v1103 : BitVec 32 := Scalar.muli v5 c1_i32_873
  let v1104 : BitVec 32 := Scalar.addi v1102 v1103
  v1104.toNat
def k0_dev29 (d0 : Dev nD) : Nat :=
  let c0_i32_911 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_910 : BitVec 32 := 2#32
  let v1153 : BitVec 32 := Scalar.muli v7 c2_i32_910
  let v1154 : BitVec 32 := Scalar.addi c0_i32_911 v1153
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_912 : BitVec 32 := 1#32
  let v1155 : BitVec 32 := Scalar.muli v5 c1_i32_912
  let v1156 : BitVec 32 := Scalar.addi v1154 v1155
  v1156.toNat
def k0_dev30 (d0 : Dev nD) : Nat :=
  let c0_i32_950 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_949 : BitVec 32 := 2#32
  let v1205 : BitVec 32 := Scalar.muli v7 c2_i32_949
  let v1206 : BitVec 32 := Scalar.addi c0_i32_950 v1205
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_951 : BitVec 32 := 1#32
  let v1207 : BitVec 32 := Scalar.muli v5 c1_i32_951
  let v1208 : BitVec 32 := Scalar.addi v1206 v1207
  v1208.toNat
def k0_dev31 (d0 : Dev nD) : Nat :=
  let c0_i32_989 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_988 : BitVec 32 := 2#32
  let v1257 : BitVec 32 := Scalar.muli v7 c2_i32_988
  let v1258 : BitVec 32 := Scalar.addi c0_i32_989 v1257
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_990 : BitVec 32 := 1#32
  let v1259 : BitVec 32 := Scalar.muli v5 c1_i32_990
  let v1260 : BitVec 32 := Scalar.addi v1258 v1259
  v1260.toNat
def k0_dev32 (d0 : Dev nD) : Nat :=
  let c0_i32_1028 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1027 : BitVec 32 := 2#32
  let v1309 : BitVec 32 := Scalar.muli v7 c2_i32_1027
  let v1310 : BitVec 32 := Scalar.addi c0_i32_1028 v1309
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1029 : BitVec 32 := 1#32
  let v1311 : BitVec 32 := Scalar.muli v5 c1_i32_1029
  let v1312 : BitVec 32 := Scalar.addi v1310 v1311
  v1312.toNat
def k0_dev33 (d0 : Dev nD) : Nat :=
  let c0_i32_1067 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1066 : BitVec 32 := 2#32
  let v1361 : BitVec 32 := Scalar.muli v7 c2_i32_1066
  let v1362 : BitVec 32 := Scalar.addi c0_i32_1067 v1361
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1068 : BitVec 32 := 1#32
  let v1363 : BitVec 32 := Scalar.muli v5 c1_i32_1068
  let v1364 : BitVec 32 := Scalar.addi v1362 v1363
  v1364.toNat
def k0_dev34 (d0 : Dev nD) : Nat :=
  let c0_i32_1106 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1105 : BitVec 32 := 2#32
  let v1413 : BitVec 32 := Scalar.muli v7 c2_i32_1105
  let v1414 : BitVec 32 := Scalar.addi c0_i32_1106 v1413
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1107 : BitVec 32 := 1#32
  let v1415 : BitVec 32 := Scalar.muli v5 c1_i32_1107
  let v1416 : BitVec 32 := Scalar.addi v1414 v1415
  v1416.toNat
def k0_dev35 (d0 : Dev nD) : Nat :=
  let c0_i32_1145 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1144 : BitVec 32 := 2#32
  let v1465 : BitVec 32 := Scalar.muli v7 c2_i32_1144
  let v1466 : BitVec 32 := Scalar.addi c0_i32_1145 v1465
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1146 : BitVec 32 := 1#32
  let v1467 : BitVec 32 := Scalar.muli v5 c1_i32_1146
  let v1468 : BitVec 32 := Scalar.addi v1466 v1467
  v1468.toNat
def k0_dev36 (d0 : Dev nD) : Nat :=
  let c0_i32_1184 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1183 : BitVec 32 := 2#32
  let v1517 : BitVec 32 := Scalar.muli v7 c2_i32_1183
  let v1518 : BitVec 32 := Scalar.addi c0_i32_1184 v1517
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1185 : BitVec 32 := 1#32
  let v1519 : BitVec 32 := Scalar.muli v5 c1_i32_1185
  let v1520 : BitVec 32 := Scalar.addi v1518 v1519
  v1520.toNat
def k0_dev37 (d0 : Dev nD) : Nat :=
  let c0_i32_1223 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1222 : BitVec 32 := 2#32
  let v1569 : BitVec 32 := Scalar.muli v7 c2_i32_1222
  let v1570 : BitVec 32 := Scalar.addi c0_i32_1223 v1569
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1224 : BitVec 32 := 1#32
  let v1571 : BitVec 32 := Scalar.muli v5 c1_i32_1224
  let v1572 : BitVec 32 := Scalar.addi v1570 v1571
  v1572.toNat
def k0_dev38 (d0 : Dev nD) : Nat :=
  let c0_i32_1262 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1261 : BitVec 32 := 2#32
  let v1621 : BitVec 32 := Scalar.muli v7 c2_i32_1261
  let v1622 : BitVec 32 := Scalar.addi c0_i32_1262 v1621
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1263 : BitVec 32 := 1#32
  let v1623 : BitVec 32 := Scalar.muli v5 c1_i32_1263
  let v1624 : BitVec 32 := Scalar.addi v1622 v1623
  v1624.toNat
def k0_off10 (d0 : Dev nD) (c0_i32_1284 : BitVec 32) : Fin 2 → Nat :=
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c1024_i32_1283 : BitVec 32 := 1024#32
  let v1645 : BitVec 32 := Scalar.muli v7 c1024_i32_1283
  let v1646 : BitVec 32 := Scalar.addi v1645 c0_i32_1284
  let c0_i32_1286 : BitVec 32 := 0#32
  ![v1646.toNat, 0]
def k0_off11 (d0 : Dev nD) (c16_i32_1299 : BitVec 32) : Fin 2 → Nat :=
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c1024_i32_1298 : BitVec 32 := 1024#32
  let v1659 : BitVec 32 := Scalar.muli v7 c1024_i32_1298
  let v1660 : BitVec 32 := Scalar.addi v1659 c16_i32_1299
  let c0_i32_1301 : BitVec 32 := 0#32
  ![v1660.toNat, 0]
def k0_off12 (d0 : Dev nD) (c64_i32_1314 : BitVec 32) : Fin 2 → Nat :=
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c1024_i32_1313 : BitVec 32 := 1024#32
  let v1673 : BitVec 32 := Scalar.muli v7 c1024_i32_1313
  let v1674 : BitVec 32 := Scalar.addi v1673 c64_i32_1314
  let c0_i32_1316 : BitVec 32 := 0#32
  ![v1674.toNat, 0]
abbrev stage0_0 : Fin 1 → Memref sig .tc .vmem S2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x4096x2048 : Shape := ⟨3, ![2, 4096, 2048]⟩
abbrev S2048 : Shape := ⟨1, ![2048]⟩
abbrev S_ : Shape := ⟨0, ![]⟩
abbrev S4096x2048 : Shape := ⟨2, ![4096, 2048]⟩
abbrev S4096 : Shape := ⟨1, ![4096]⟩
abbrev S4096x1 : Shape := ⟨2, ![4096, 1]⟩
abbrev S1x2048 : Shape := ⟨2, ![1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S1x2048, .f32⟩
  | .hbm, ⟨18, _⟩ => ⟨S4096x2048, .f32⟩
  | .hbm, ⟨19, _⟩ => ⟨S4096x2048, .f32⟩
  | .hbm, ⟨20, _⟩ => ⟨S4096x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.Steps.lean ====
/-
# The kernel as loops over its eighteen chunks

The kernel is printed unrolled. A chunk is a band of rows of a device's 1024 x 2048 quarter: chunk `i` starts at
row `off i` and has `sz i` rows. Every pass of the kernel runs one short sequence of operations for each chunk; here
each such sequence is written once, for any chunk, and `body` runs the passes one after another. `body_eq` says the
printed kernel is that program.
-/
module

public import proofs.«01_k».proof.Proof.Gen.KernelIdeal.Skeleton
public import proofs.«01_k».proof.Proof.Gen.KernelIdeal.Launch

@[expose] public section

noncomputable section

namespace Cert.KernelIdeal.Chunked

open Cert.KernelIdeal Cert.KernelIdeal.Gen
open Idealize.ShloMosaic Idealize.ShloMosaic.TcCoe
open Idealize.SL Idealize.SL.Sem

variable {F : FTy → Type} [FloatOps F]

/-! ## Chunks -/

/-- The first row of a chunk. -/
def off (i : Fin 18) : ℕ :=
  (![0, 16, 64, 128, 192, 256, 320, 384, 448, 512, 576, 640, 704, 768, 832, 896, 960, 1008] : Fin 18 → ℕ) i
/-- The number of rows of a chunk. -/
def sz (i : Fin 18) : ℕ := (![16, 48, 64, 64, 64, 64, 64, 64, 64, 64, 64, 64, 64, 64, 64, 64, 48, 16] : Fin 18 → ℕ) i
/-- The chunks in the order every pass takes them. -/
def chunks : List (Fin 18) := [0, 1, 2, 3, 4, 5, 6, 7, 8, 9, 10, 11, 12, 13, 14, 15, 16, 17]

/-- A chunk's rows of a quarter. -/
abbrev CS (i : Fin 18) : Shape := ⟨2, ![sz i, 2048]⟩
/-- The same with the leading axis of the partial sums. -/
abbrev CS1 (i : Fin 18) : Shape := ⟨3, ![1, sz i, 2048]⟩
/-- One number for each row of a chunk. -/
abbrev CR (i : Fin 18) : Shape := ⟨1, ![sz i]⟩
/-- The same as a column. -/
abbrev CC (i : Fin 18) : Shape := ⟨2, ![sz i, 1]⟩

theorem row_inb : ∀ (i : Fin 18) (a : Fin 2), (![off i, 0] : Fin 2 → ℕ) a + (CS i).size a ≤ S1024x2048.size a := by decide
theorem sem_inb : ∀ (i : Fin 18) (a : Fin 1), (![i.val] : Fin 1 → ℕ) a + S1.size a ≤ S18.size a := by decide
theorem cs_pos : ∀ i : Fin 18, 0 < (CS i).numel := by decide
theorem cs_squeezes : ∀ i : Fin 18, (CS1 i).Squeezes (CS i) := by decide
theorem cs_casts : ∀ i : Fin 18, (CS i).ShapeCasts (CS i) := by decide
theorem cs_reduces : ∀ i : Fin 18, (CS i).Reduces [1] (CR i) := by decide
theorem cr_casts : ∀ i : Fin 18, (CR i).ShapeCasts (CC i) := by decide
theorem cc_broadcasts : ∀ i : Fin 18, (CC i).Broadcasts (CS i) := by decide
theorem g_broadcasts : ∀ i : Fin 18, S1x2048.Broadcasts (CS i) := by decide

/-- The chunk's rows inside a quarter. -/
abbrev row (i : Fin 18) : Rect S1024x2048 := Rect.unit (s := S1024x2048) ![off i, 0] (CS i).size (row_inb i)

theorem row_packed : ∀ i : Fin 18, (row i).PackedRows (EltTy.packing .bf16) := by decide +kernel
theorem row_words : ∀ i : Fin 18, (row i).WholeWords (EltTy.packing .bf16) := by decide +kernel

/-- The first row as the 32-bit word the printed offsets take. -/
abbrev offW (i : Fin 18) : BitVec 32 := BitVec.ofNat 32 (off i)

/-- The rows of the partial sums a chunk reads: the other half (`k0_off1`) and the own half (`k0_off4`). -/
theorem peer_inb : ∀ (d : Dev nD) (i : Fin 18) (a : Fin 3), k0_off1 d (offW i) a + (CS1 i).size a ≤ S1x4096x2048.size a := by decide +kernel
theorem own_inb : ∀ (d : Dev nD) (i : Fin 18) (a : Fin 3), k0_off4 d (offW i) a + (CS1 i).size a ≤ S1x4096x2048.size a := by decide +kernel
/-- The rows of the result a chunk writes: this device's quarter (`k0_off7`) and the other device's (`k0_off10`). -/
theorem out_inb : ∀ (d : Dev nD) (i : Fin 18) (a : Fin 2), k0_off7 d (offW i) a + (CS i).size a ≤ S2048x2048.size a := by decide +kernel
theorem outP_inb : ∀ (d : Dev nD) (i : Fin 18) (a : Fin 2), k0_off10 d (offW i) a + (CS i).size a ≤ S2048x2048.size a := by decide +kernel

abbrev peerRows (d : Dev nD) (i : Fin 18) : Rect S1x4096x2048 := Rect.unit (s := S1x4096x2048) (k0_off1 d (offW i)) (CS1 i).size (peer_inb d i)
abbrev ownRows (d : Dev nD) (i : Fin 18) : Rect S1x4096x2048 := Rect.unit (s := S1x4096x2048) (k0_off4 d (offW i)) (CS1 i).size (own_inb d i)
abbrev outRows (d : Dev nD) (i : Fin 18) : Rect S2048x2048 := Rect.unit (s := S2048x2048) (k0_off7 d (offW i)) (CS i).size (out_inb d i)
abbrev outPRows (d : Dev nD) (i : Fin 18) : Rect S2048x2048 := Rect.unit (s := S2048x2048) (k0_off10 d (offW i)) (CS i).size (outP_inb d i)

theorem outRows_words : ∀ (d : Dev nD) (i : Fin 18), (outRows d i).WholeWords (EltTy.packing .bf16) := by decide +kernel
theorem outPRows_words : ∀ (d : Dev nD) (i : Fin 18), (outPRows d i).WholeWords (EltTy.packing .bf16) := by decide +kernel

/-! ## The buffers and the semaphores -/

abbrev pM : Memref sig .tc .hbm S1x4096x2048 .f32 := Memref.whole main_arg0
abbrev gM : Memref sig .tc .vmem S2048 .f32 := Memref.whole cc0_stg0_0
abbrev oM : Memref sig .tc .hbm S2048x2048 .bf16 := Memref.whole main_v1
abbrev psM : Memref sig .tc .vmem S1024x2048 .f32 := Memref.whole cc0_scratch0
abbrev msM : Memref sig .tc .vmem S1024x2048 .f32 := Memref.whole cc0_scratch1
abbrev ysM : Memref sig .tc .vmem S1024x2048 .bf16 := Memref.whole cc0_scratch2
abbrev yrM : Memref sig .tc .vmem S1024x2048 .bf16 := Memref.whole cc0_scratch3
abbrev xsM : Memref sig .tc .vmem S1024x2048 .bf16 := Memref.whole cc0_scratch4
abbrev xrM : Memref sig .tc .vmem S1024x2048 .bf16 := Memref.whole cc0_scratch5

/-- A chunk of a quarter held in VMEM. -/
abbrev ch {e : EltTy} (M : Memref sig .tc .vmem S1024x2048 e) (i : Fin 18) : Memref sig .tc .vmem (CS i) e := M.slice (row i) (fun _ => rfl)
abbrev pPeer (d : Dev nD) (i : Fin 18) : Memref sig .tc .hbm (CS i) .f32 := (pM.slice (peerRows d i) (fun _ => rfl)).squeeze (CS i) (cs_squeezes i)
abbrev pOwn (d : Dev nD) (i : Fin 18) : Memref sig .tc .hbm (CS i) .f32 := (pM.slice (ownRows d i) (fun _ => rfl)).squeeze (CS i) (cs_squeezes i)
abbrev oOwn (d : Dev nD) (i : Fin 18) : Memref sig .tc .hbm (CS i) .bf16 := oM.slice (outRows d i) (fun _ => rfl)
abbrev oPeer (d : Dev nD) (i : Fin 18) : Memref sig .tc .hbm (CS i) .bf16 := oM.slice (outPRows d i) (fun _ => rfl)

/-- The semaphore of a chunk in an array of them. -/
abbrev semAt (A : DmaSems sig S18) (i : Fin 18) : DmaSem sig :=
  ((A.slice (Rect.unit (s := S18) ![i.val] S1.size (sem_inb i))).squeeze S_ squeezes_S1_S_).sem

abbrev barS : Sem sig := (SemArray.scalar (sig.barrier 0 rfl) : Sems sig S_).sem

/-- The device that shares `d`'s first mesh coordinate, and the one that shares its second. -/
abbrev yDev (d : Dev nD) : Dev nD := ⟨k0_dev1 d, k0_dev1_lt d⟩
abbrev xDev (d : Dev nD) : Dev nD := ⟨k0_dev2 d, k0_dev2_lt d⟩

/-! ## The values -/

/-- What a chunk sends to the y-peer. -/
def ySent (i : Fin 18) (v : Vec F (CS i) .f32) : FVec F (CS i) .bf16 :=
  shapeCast (CS i) (truncf .bf16 v bitsLt_bf16_f32) (cs_casts i)

/-- The sum of the two halves of a chunk. -/
def total (i : Fin 18) (v : Vec F (CS i) .f32) (w : Vec F (CS i) .bf16) : FVec F (CS i) .f32 :=
  addf v (extf .f32 w bitsLt_bf16_f32)

/-- The sum of squares of each row of a chunk. -/
def squares (i : Fin 18) (s : FVec F (CS i) .f32) : FVec F (CC i) .f32 :=
  shapeCast (CC i) (multiReduction .add [1] (CR i) (mulf s s) 0x00000000#32 (cs_reduces i) (.inl rfl) rfl) (cr_casts i)

/-- A chunk normalised by its rows' root mean squares and scaled by gamma. -/
def normed (i : Fin 18) (s : FVec F (CS i) .f32) (q : FVec F (CC i) .f32) (g : Vec F S2048 .f32) : FVec F (CS i) .bf16 :=
  shapeCast (CS i)
    (truncf .bf16
      (mulf
        (mulf s (broadcastTo (CS i)
          (rsqrt (addf (divf q (broadcast (CC i) (Scalar.ofBits .f32 0x45000000#32))) (broadcast (CC i) (Scalar.ofBits .f32 0x358637BD#32))))
          (cc_broadcasts i)))
        (broadcastTo (CS i) (shapeCast S1x2048 (shapeCast S2048 g shapeCasts_S2048_S2048) shapeCasts_S2048_S1x2048) (g_broadcasts i)))
      bitsLt_bf16_f32)
    (cs_casts i)

/-- What a chunk of this device's quarter ends as. -/
def xSent (i : Fin 18) (v : Vec F (CS i) .f32) (w : Vec F (CS i) .bf16) (g : Vec F S2048 .f32) : FVec F (CS i) .bf16 :=
  normed i (total i v w) (squares i (total i v w)) g

/-! ## One chunk of each pass -/

abbrev Pg (F : FTy → Type) [FloatOps F] : Type 1 := Prog (TpuEff nD τ sig (Elt F) Λ₀ .tc) PUnit

/-- Signal both neighbours and wait for both. -/
def hand (d : Dev nD) : Pg F := do
  semSignalWord (yDev d) barS 1#32
  semSignalWord (xDev d) barS 1#32
  semWaitWord barS 2#32

/-- Start staging the rows the y-peer needs. -/
def st1 (d : Dev nD) (i : Fin 18) : Pg F :=
  Prog.lift (.enqueueDma (pPeer d i) (.here (ch psM i)) (.dma (semAt cc0_scratch6 i)) ((View.wordExact_bits rfl).reshape _ _) (View.wordExact_bits rfl) ⟨Or.inl rfl, trivial⟩)
/-- Start staging the own rows. -/
def st2 (d : Dev nD) (i : Fin 18) : Pg F :=
  Prog.lift (.enqueueDma (pOwn d i) (.here (ch msM i)) (.dma (semAt cc0_scratch7 i)) ((View.wordExact_bits rfl).reshape _ _) (View.wordExact_bits rfl) ⟨Or.inl rfl, trivial⟩)
/-- Cast the staged rows and send them to the y-peer. -/
def sendY (d : Dev nD) (i : Fin 18) : Pg F := do
  Prog.lift (.waitDma2 (semAt cc0_scratch6 i) (pPeer d i) (ch psM i) ((View.wordExact_bits rfl).reshape _ _) (View.wordExact_bits rfl))
  let v : Vec F (CS i) .f32 ← Prog.lift (.load psM (row i).toLoadRect (View.loadsAt_vmem (cs_pos i)))
  let _ : Vec F (CS i) .bf16 ← Prog.lift (.load ysM (row i).toLoadRect (View.loadsAt_vmem (cs_pos i)))
  Prog.lift (.store ysM (row i) (ySent i v) Finset.univ (View.stores_vmem (cs_pos i) ((Memref.isWhole_whole _).storeExact_slice rfl _ (row_packed i)) (fun _ => rfl)) (.inl rfl))
  Prog.lift (.enqueueDma (ch ysM i) (.remote (Dev.tc (yDev d)) (ch yrM i) (.dma (semAt cc0_scratch8 i))) (.dma (semAt cc0_scratch9 i))
    ((Memref.isWhole_whole _).wordExact_slice rfl _ (row_words i)) ((Memref.isWhole_whole _).wordExact_slice rfl _ (row_words i)) ⟨⟨rfl, Or.inl rfl⟩, trivial⟩)
/-- Add the y-peer's rows, normalise, send the result to the x-peer and copy it out. -/
def sendX (d : Dev nD) (i : Fin 18) : Pg F := do
  Prog.lift (.waitDma2 (semAt cc0_scratch7 i) (pOwn d i) (ch msM i) ((View.wordExact_bits rfl).reshape _ _) (View.wordExact_bits rfl))
  Prog.lift (.waitDma2 (semAt cc0_scratch9 i) (ch ysM i) (ch yrM i)
    ((Memref.isWhole_whole _).wordExact_slice rfl _ (row_words i)) ((Memref.isWhole_whole _).wordExact_slice rfl _ (row_words i)))
  let v : Vec F (CS i) .f32 ← Prog.lift (.load msM (row i).toLoadRect (View.loadsAt_vmem (cs_pos i)))
  let w : Vec F (CS i) .bf16 ← Prog.lift (.load yrM (row i).toLoadRect (View.loadsAt_vmem (cs_pos i)))
  let g : Vec F S2048 .f32 ← Prog.lift (.load gM (Rect.unit (s := S2048) ![0] S2048.size inb_S2048_S2048_0).toLoadRect (View.loadsAt_vmem h_S2048))
  let _ : Vec F (CS i) .bf16 ← Prog.lift (.load xsM (row i).toLoadRect (View.loadsAt_vmem (cs_pos i)))
  Prog.lift (.store xsM (row i) (xSent i v w g) Finset.univ (View.stores_vmem (cs_pos i) ((Memref.isWhole_whole _).storeExact_slice rfl _ (row_packed i)) (fun _ => rfl)) (.inl rfl))
  Prog.lift (.enqueueDma (ch xsM i) (.remote (Dev.tc (xDev d)) (ch xrM i) (.dma (semAt cc0_scratch10 i))) (.dma (semAt cc0_scratch11 i))
    ((Memref.isWhole_whole _).wordExact_slice rfl _ (row_words i)) ((Memref.isWhole_whole _).wordExact_slice rfl _ (row_words i)) ⟨⟨rfl, Or.inl rfl⟩, trivial⟩)
  Prog.lift (.enqueueDma (ch xsM i) (.here (oOwn d i)) (.dma (semAt cc0_scratch12 i))
    ((Memref.isWhole_whole _).wordExact_slice rfl _ (row_words i)) ((Memref.isWhole_whole _).wordExact_slice rfl _ (outRows_words d i)) ⟨Or.inl rfl, trivial⟩)
/-- Copy out what the x-peer sent. -/
def outX (d : Dev nD) (i : Fin 18) : Pg F := do
  Prog.lift (.waitDma2 (semAt cc0_scratch11 i) (ch xsM i) (ch xrM i)
    ((Memref.isWhole_whole _).wordExact_slice rfl _ (row_words i)) ((Memref.isWhole_whole _).wordExact_slice rfl _ (row_words i)))
  Prog.lift (.enqueueDma (ch xrM i) (.here (oPeer d i)) (.dma (semAt cc0_scratch13 i))
    ((Memref.isWhole_whole _).wordExact_slice rfl _ (row_words i)) ((Memref.isWhole_whole _).wordExact_slice rfl _ (outPRows_words d i)) ⟨Or.inl rfl, trivial⟩)
/-- Wait for the copies out. -/
def end1 (d : Dev nD) (i : Fin 18) : Pg F :=
  Prog.lift (.waitDma2 (semAt cc0_scratch12 i) (ch xsM i) (oOwn d i)
    ((Memref.isWhole_whole _).wordExact_slice rfl _ (row_words i)) ((Memref.isWhole_whole _).wordExact_slice rfl _ (outRows_words d i)))
def end2 (d : Dev nD) (i : Fin 18) : Pg F :=
  Prog.lift (.waitDma2 (semAt cc0_scratch13 i) (ch xrM i) (oPeer d i)
    ((Memref.isWhole_whole _).wordExact_slice rfl _ (row_words i)) ((Memref.isWhole_whole _).wordExact_slice rfl _ (outPRows_words d i)))
/-- Wait until the own sends have left. -/
def end3 (i : Fin 18) : Pg F := do
  Prog.lift (.waitDma2 (semAt cc0_scratch8 i) (ch yrM i) (ch ysM i)
    ((Memref.isWhole_whole _).wordExact_slice rfl _ (row_words i)) ((Memref.isWhole_whole _).wordExact_slice rfl _ (row_words i)))
  Prog.lift (.waitDma2 (semAt cc0_scratch10 i) (ch xrM i) (ch xsM i)
    ((Memref.isWhole_whole _).wordExact_slice rfl _ (row_words i)) ((Memref.isWhole_whole _).wordExact_slice rfl _ (row_words i)))

/-- Run `f` for every chunk of a list, then `k`. -/
def each (f : Fin 18 → Pg F) : List (Fin 18) → Pg F → Pg F
  | [], k => k
  | i :: l, k => f i >>= fun _ => each f l k

/-- The kernel. -/
def body : Pg F := do
  let d : Dev nD ← Prog.lift .deviceId
  hand d
  each (st1 d) chunks <| each (st2 d) chunks <| each (sendY d) chunks <| each (sendX d) chunks <| each (outX d) chunks <|
    each (end1 d) chunks <| each (end2 d) chunks <| each end3 chunks <| pure ⟨⟩

end Cert.KernelIdeal.Chunked

end
-- ==== Proof.Protocol.lean ====
/-
# The protocol between the devices

Four devices in a 2 x 2 mesh. Device `c` exchanges with `yDev c` (same first coordinate) and with `xDev c` (same second
coordinate); both maps are their own inverses. Each device first signals both neighbours' barrier semaphores and waits
for two units on its own: a neighbour's signal says that the neighbour has entered the kernel, and hands over the
buffers that will be written remotely — `yDev c` its landing buffer for the y-exchange, `xDev c` its landing buffer for the
x-exchange. From then on every chunk has eight transfers of its own, each on a semaphore of its own that is waited for
once:

* `st1`, `st2`: the staging copies from HBM, of the rows the y-peer needs and of the own rows;
* `ys`, `yr`: a send to `yDev`, leaving (`ys`, on the sender) and landing (`yr`, on the receiver);
* `xs`, `xr`: the same for a send to `xDev`;
* `o1`, `o2`: the copies into the result, of this device's quarter and of what `xDev` sent.

Under the rounds library a device has one cell for the barrier (two duties, one for each neighbour) and one for
each of those semaphores (one duty, paid by whoever starts the transfer). A device owes, from the start, the two barrier
units and the eighteen landings on each neighbour. Barrier cells are at level 1, y-landings at level 2, x-landings at
level 3 and everything else at level 0: a device waits on its barrier owing landings only, on a staging copy owing
landings, on a y-landing owing x-landings, and on the rest owing nothing.
-/
module

public import proofs.«01_k».proof.Proof.Steps
public import proofs.«01_k».proof.Proof.Gen.KernelIdeal.Points
public import Idealize.ShloMosaic.Lib.Pipeline.Launch
public import Idealize.ShloMosaic.Lib.Pipeline.Kit
public import Idealize.ShloMosaic.Lib.MemrefSat
public import Idealize.ShloMosaic.Lib.Tactic

@[expose] public section

noncomputable section

namespace Cert.KernelIdeal.Chunked

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

theorem yDev_yDev : ∀ c : Dev nD, yDev (yDev c) = c := by decide +kernel
theorem xDev_xDev : ∀ c : Dev nD, xDev (xDev c) = c := by decide +kernel

def yEquiv : Dev nD ≃ Dev nD := ⟨yDev, yDev, yDev_yDev, yDev_yDev⟩
def xEquiv : Dev nD ≃ Dev nD := ⟨xDev, xDev, xDev_xDev, xDev_xDev⟩

/-! ## The cells -/

/-- The eight transfers of a chunk. -/
inductive Fam | st1 | st2 | ys | yr | xs | xr | o1 | o2
  deriving DecidableEq

/-- Their position in the order the kernel declares their semaphores in. -/
def Fam.num : Fam → ℕ | .st1 => 0 | .st2 => 1 | .ys => 2 | .yr => 3 | .xs => 4 | .xr => 5 | .o1 => 6 | .o2 => 7
def Fam.ofNum : ℕ → Fam | 0 => .st1 | 1 => .st2 | 2 => .ys | 3 => .yr | 4 => .xs | 5 => .xr | 6 => .o1 | _ => .o2

instance : Fintype Fam := ⟨{Fam.st1, .st2, .ys, .yr, .xs, .xr, .o1, .o2}, fun k => by cases k <;> decide⟩

/-- The semaphores of a transfer. -/
def Fam.sems : Fam → DmaSems sig S18
  | .st1 => cc0_scratch6 | .st2 => cc0_scratch7 | .ys => cc0_scratch8 | .yr => cc0_scratch9
  | .xs => cc0_scratch10 | .xr => cc0_scratch11 | .o1 => cc0_scratch12 | .o2 => cc0_scratch13

/-- A transfer of a chunk. -/
abbrev Key : Type := Fam × Fin 18

abbrev keySem (k : Key) : SemLoc sig := .dma (semAt k.1.sems k.2)

/-- Which transfer a semaphore belongs to. -/
def dec : SemLoc sig → Option Key
  | .dma q => if 1 ≤ q.val then some (Fam.ofNum ((q.val - 1) / 18), ⟨(q.val - 1) % 18, Nat.mod_lt _ (by decide)⟩) else none
  | .reg _ => none

theorem dec_keySem : ∀ k : Key, dec (keySem k) = some k := by decide +kernel

theorem keySem_injective : Function.Injective keySem := fun a b h =>
  Option.some.inj ((dec_keySem a).symm.trans ((congrArg dec h).trans (dec_keySem b)))

theorem keySem_ne_bar (k : Key) : keySem k ≠ .reg barS := fun h => by cases h

abbrev barCell (c : Dev nD) : GSem nD τ sig := ((c : Thread nD τ), .reg barS)
abbrev cell (c : Dev nD) (k : Key) : GSem nD τ sig := ((c : Thread nD τ), keySem k)

/-- A device's cells, the barrier's first. -/
abbrev csem : Option Key → SemLoc sig := fun | none => .reg barS | some k => keySem k
abbrev kcell (ck : Dev nD × Option Key) : GSem nD τ sig := ((ck.1 : Thread nD τ), csem ck.2)

theorem csem_injective : Function.Injective csem := by
  rintro (_ | a) (_ | b) h
  · rfl
  · exact absurd h.symm (keySem_ne_bar b)
  · exact absurd h (keySem_ne_bar a)
  · exact congrArg some (keySem_injective h)

theorem kcell_injective : Function.Injective kcell := by
  rintro ⟨c, k⟩ ⟨c', k'⟩ h
  have h1 : c = c' := congrArg (fun g : GSem nD τ sig => g.1.1) h
  have h2 : k = k' := csem_injective (congrArg Prod.snd h)
  subst h1 h2; rfl

/-! ## The units -/

/-- What a transfer of a chunk credits: that of 32-bit values for the staging copies, of 16-bit values for the others. -/
def amt : Key → ℕ
  | (.st1, i) | (.st2, i) => (ch psM i).view.dmaCredit
  | (_, i) => (ch ysM i).view.dmaCredit

theorem amt_pos (k : Key) : 0 < amt k := by
  obtain ⟨f, i⟩ := k
  cases f <;> exact View.dmaCredit_pos _ (cs_pos i)

/-! ## The values -/

variable (m : (ℓ : Loc nD τ sig) → Buf (Elt F) ℓ)

/-- The rows of device `c`'s partial sums that its y-peer needs, and those it needs itself. -/
def pv (c : Dev nD) (i : Fin 18) : Vec F (CS i) .f32 := (pPeer c i).view.read (Elt F) (m ((c : Thread nD τ).loc main_arg0))
def ov (c : Dev nD) (i : Fin 18) : Vec F (CS i) .f32 := (pOwn c i).view.read (Elt F) (m ((c : Thread nD τ).loc main_arg0))

/-- Gamma as staged. -/
def gst (c : Dev nD) : (cc0_stg0_0 : Ref sig .tc).ty.Contents (Elt F) :=
  (win0_0.blk (0 : Fin 1)).view.read (Elt F) (m ((c : Thread nD τ).loc main_arg1))
def gv (c : Dev nD) : Vec F S2048 .f32 :=
  gM.view.readAt (Elt F) (Rect.unit (s := S2048) ![0] S2048.size inb_S2048_S2048_0).toLoadRect (gst m c)

/-- What device `c` sends its y-peer, and what it sends its x-peer. -/
def yv (c : Dev nD) (i : Fin 18) : Vec F (CS i) .bf16 := ySent i (pv m c i)
def xv (c : Dev nD) (i : Fin 18) : Vec F (CS i) .bf16 := xSent i (ov m c i) (yv m (yDev c) i) (gv m c)

/-! ## What is handed over -/

/-- A memref's elements at contents not chosen. -/
def held (c : Dev nD) {sp : Space} {s : Shape} {e : EltTy} (M : Memref sig .tc sp s e) : sProp 𝕄 :=
  iprop(∃ f, M.view.loc (c : Thread nD τ) ↦[M.view.set]{fullShare} f)

/-- A memref's elements at a value. -/
abbrev holds (c : Dev nD) {sp : Space} {s : Shape} {e : EltTy} (M : Memref sig .tc sp s e) (q : PosShare TreeShare) (X : s.Idx → Elt F e) : sProp 𝕄 :=
  owns (Ix := Unit) (Name := ℕ) (U := UU) (Lvl := ℕ) (c : Thread nD τ) M q X

omit [FloatOps F] in
instance held_storable (c : Dev nD) {sp : Space} {s : Shape} {e : EltTy} (M : Memref sig .tc sp s e) :
    BI.Storable (upEmb : UEmb _ 𝕄) (held (F := F) c M) := by unfold held; infer_instance
omit [FloatOps F] in
instance holds_storable (c : Dev nD) {sp : Space} {s : Shape} {e : EltTy} (M : Memref sig .tc sp s e) (q) (X : s.Idx → Elt F e) :
    BI.Storable (upEmb : UEmb _ 𝕄) (holds (F := F) c M q X) := by unfold holds owns; infer_instance

/-- What a transfer of a chunk delivers to device `c`, whose semaphore it ends on. -/
def pay (c : Dev nD) : Key → sProp 𝕄
  | (.st1, i) => holds c (ch psM i) fullShare (pv m c i)
  | (.st2, i) => holds c (ch msM i) fullShare (ov m c i)
  | (.ys, i) => holds c (ch ysM i) fullShare (yv m c i)
  | (.yr, i) => holds c (ch yrM i) fullShare (yv m (yDev c) i)
  | (.xs, i) => holds c (ch xsM i) fullShare.left (xv m c i)
  | (.xr, i) => holds c (ch xrM i) fullShare (xv m (xDev c) i)
  | (.o1, i) => iprop(holds c (oOwn c i) fullShare (xv m c i) ∗ holds c (ch xsM i) fullShare.right (xv m c i))
  | (.o2, i) => iprop(holds c (oPeer c i) fullShare (xv m (xDev c) i) ∗ holds c (ch xrM i) fullShare (xv m (xDev c) i))

instance pay_storable (c : Dev nD) (k : Key) : BI.Storable (upEmb : UEmb _ 𝕄) (pay m c k) := by
  obtain ⟨f, i⟩ := k; cases f <;> (unfold pay; infer_instance)

/-- What a neighbour's barrier signal hands device `c`: `false` comes from `yDev c`, `true` from `xDev c`. -/
def barPay (c : Dev nD) : Bool → sProp 𝕄
  | false => bigSep Finset.univ fun i : Fin 18 => held (yDev c) (ch yrM i)
  | true => bigSep Finset.univ fun i : Fin 18 => held (xDev c) (ch xrM i)

omit [FloatOps F] in
instance barPay_storable (c : Dev nD) (b : Bool) : BI.Storable (upEmb : UEmb _ 𝕄) (barPay (F := F) c b) := by
  cases b <;> (unfold barPay; infer_instance)

/-! ## The schedule -/

def sched : Rounds.Schedule (GSem nD τ sig) Bool 𝕄 where
  duties g r :=
    if r = 0 ∧ g.1.2 = .tc then (if g.2 = .reg barS then Finset.univ else if (dec g.2).isSome then {false} else ∅) else ∅
  unitless _ := False
  amount g _ _ := match dec g.2 with | some k => amt k | none => 1
  payload g _ d := match dec g.2 with | some k => pay m g.1.1 k | none => barPay g.1.1 d
  amount_pos g _ _ _ := by
    cases dec g.2 with
    | none => exact Nat.one_pos
    | some k => exact amt_pos k

instance sched_storable (g : GSem nD τ sig) (r : ℕ) (d : Bool) :
    BI.Storable (upEmb : UEmb _ 𝕄) ((sched (F := F) m).payload g r d) := by
  show BI.Storable upEmb (match dec g.2 with | some k => pay m g.1.1 k | none => barPay g.1.1 d)
  cases dec g.2 <;> infer_instance

section Sched
variable (c : Dev nD) (k : Key)

theorem duties_bar : (sched (F := F) m).duties (barCell c) 0 = Finset.univ := by
  dsimp only [sched]; rw [if_pos ⟨rfl, rfl⟩, if_pos rfl]
theorem duties_cell : (sched (F := F) m).duties (cell c k) 0 = {false} := by
  dsimp only [sched]; rw [if_pos ⟨rfl, rfl⟩, if_neg (keySem_ne_bar k), dec_keySem]; rfl
theorem duties_later (g : GSem nD τ sig) : ∀ r, 1 ≤ r → (sched (F := F) m).duties g r = ∅ :=
  fun r hr => by dsimp only [sched]; rw [if_neg fun h => by omega]
theorem amount_bar (d : Bool) : (sched (F := F) m).amount (barCell c) 0 d = 1 := rfl
theorem amount_cell (d : Bool) : (sched (F := F) m).amount (cell c k) 0 d = amt k := by dsimp only [sched]; rw [dec_keySem]
theorem payload_bar (d : Bool) : (sched (F := F) m).payload (barCell c) 0 d = barPay c d := rfl
theorem payload_cell (d : Bool) : (sched (F := F) m).payload (cell c k) 0 d = pay m c k := by dsimp only [sched]; rw [dec_keySem]
theorem expect_bar : (sched (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_cell : (sched (F := F) m).expect (cell c k) 0 = amt k := by
  unfold Schedule.expect Schedule.amountOf; rw [duties_cell, Finset.sum_singleton, amount_cell]
theorem rest_bar : bigSep ((sched (F := F) m).duties (barCell c) 0 \ ∅) (fun d => (sched (F := F) m).payload (barCell c) 0 d)
    = iprop(barPay c false ∗ barPay c true) := by
  rw [Finset.sdiff_empty, duties_bar, bigSep_univ_eq_bigSepL [false, true] (by decide) (by decide), bigSepL_cons_cons, bigSepL_singleton]
  rfl
theorem rest_cell : bigSep ((sched (F := F) m).duties (cell c k) 0 \ ∅) (fun d => (sched (F := F) m).payload (cell c k) 0 d) = pay m c k := by
  rw [Finset.sdiff_empty, duties_cell, bigSep_singleton, payload_cell]

end Sched

/-! ## What is owed, and the levels -/

/-- The landings on the x-peer still owed when the chunks of `l` are still to be sent, -/
def owedX (c : Dev nD) : List (Fin 18) → CellTallies nD τ sig Unit
  | [] => 0
  | i :: l => owedX c l + tallyAt (cell (xDev c) (.xr, i)) () (amt (.xr, i))
/-- those on the y-peer when those of `l` are, with all those on the x-peer, -/
def owedY (c : Dev nD) : List (Fin 18) → CellTallies nD τ sig Unit
  | [] => owedX c chunks
  | i :: l => owedY c l + tallyAt (cell (yDev c) (.yr, i)) () (amt (.yr, i))
/-- and at launch, with the two barrier units. -/
def owedB (c : Dev nD) : CellTallies nD τ sig Unit := owedY c chunks + tallyAt (barCell (xDev c)) () 1
def owed₀ (c : Dev nD) : CellTallies nD τ sig Unit := owedB c + tallyAt (barCell (yDev c)) () 1

def Lx (g : GSem nD τ sig) : Finset Unit := if g.1.2 = .tc then {()} else ∅
def lv (g : GSem nD τ sig) (_ : Unit) : ℕ :=
  match dec g.2 with
  | some (.yr, _) => 2
  | some (.xr, _) => 3
  | some _ => 0
  | none => if g.2 = .reg barS then 1 else 0

theorem Lx_of_ne (g : GSem nD τ sig) (h : g.1.2 ≠ .tc) : Lx g = ∅ := if_neg h
theorem Lx_tc (c : Dev nD) (sm : SemLoc sig) : Lx ((c : Thread nD τ), sm) = {()} := if_pos rfl

theorem lv_bar (c : Dev nD) : lv (barCell c) () = 1 := rfl
theorem lv_cell (c : Dev nD) (k : Key) : lv (cell c k) () = match k.1 with | .yr => 2 | .xr => 3 | _ => 0 := by
  unfold lv; rw [dec_keySem]; obtain ⟨f, i⟩ := k; cases f <;> rfl

/-- Everything owed is owed to TensorCores' cells above a level. -/
def Above (n : ℕ) (O : CellTallies nD τ sig Unit) : Prop := ∀ (g : GSem nD τ sig) (u : Unit), 0 < O g u → u ∈ Lx g ∧ n < lv g u

theorem above_zero (n : ℕ) : Above n 0 := fun g u h => absurd h (Nat.lt_irrefl 0)
theorem above_add {n : ℕ} {O : CellTallies nD τ sig Unit} (hO : Above n O) (c : Dev nD) (sm : SemLoc sig) (a : ℕ)
    (h : n < lv ((c : Thread nD τ), sm) ()) : Above n (O + tallyAt ((c : Thread nD τ), sm) () a) := fun g u hg => by
  rw [Pi.add_apply, Finsupp.add_apply, tallyAt_apply] at hg
  by_cases hc : g = ((c : Thread nD τ), sm) ∧ u = ()
  · obtain ⟨rfl, rfl⟩ := hc
    exact ⟨by rw [Lx_tc]; exact Finset.mem_singleton_self _, h⟩
  · rw [if_neg hc, Nat.add_zero] at hg; exact hO g u hg
theorem above_X (c : Dev nD) {n : ℕ} (hn : n < 3) : ∀ l, Above n (owedX c l)
  | [] => above_zero n
  | i :: l => above_add (above_X c hn l) _ _ _ (by rw [lv_cell]; exact hn)
theorem above_Y (c : Dev nD) {n : ℕ} (hn : n < 2) : ∀ l, Above n (owedY c l)
  | [] => above_X c (hn.trans (by decide)) _
  | i :: l => above_add (above_Y c hn l) _ _ _ (by rw [lv_cell]; exact hn)
theorem above_launch (c : Dev nD) : Above 0 (owed₀ c) :=
  above_add (above_add (above_Y c (by decide) _) _ _ _ (by rw [lv_bar]; decide)) _ _ _ (by rw [lv_bar]; decide)

omit [FloatOps F] in
theorem mayWait (c : Dev nD) (sm : SemLoc sig) (O : CellTallies nD τ sig Unit) (n : ℕ) (hs : lv ((c : Thread nD τ), sm) () ≤ n) (hO : Above n O) :
    (levAts Lx lv : sProp 𝕄) ⊢ MayWait (c : Thread nD τ) sm () O :=
  MayOwe.of_cut (L := Lx) (lev := lv) n (fun p hp => by rw [Finset.mem_singleton.mp hp, Lx_tc]; exact Finset.mem_singleton_self _)
    (fun g u hg => (hO g u hg).1) (fun p hp => by rw [Finset.mem_singleton.mp hp]; exact hs) (fun g u hg => (hO g u hg).2)

/-! ## The invariants -/

/-- Every cell's invariant, at the names `K` the launch allocated them under, and that every cell has reached its round;
    with the levels. All of it may be used again and again. -/
def recs (K : Dev nD × Option Key → ℕ) : sProp 𝕄 :=
  iprop(((bigSep Finset.univ fun ck : Dev nD × Option Key => cellInv ER (sched m) (K ck) (kcell ck))
    ∗ bigSep Finset.univ fun ck : Dev nD × Option Key => reached ER (kcell ck) 0) ∗ levAts Lx lv)

instance recs_persistent (K : Dev nD × Option Key → ℕ) : BI.Persistent (recs m K) := by unfold recs; infer_instance

theorem recs_inv (K : Dev nD × Option Key → ℕ) (ck : Dev nD × Option Key) : recs m K ⊢ cellInv ER (sched m) (K ck) (kcell ck) := by
  have h : (bigSep Finset.univ fun ck : Dev nD × Option Key => (cellInv ER (sched m) (K ck) (kcell ck) : sProp 𝕄)) ⊢ cellInv ER (sched m) (K ck) (kcell ck) :=
    bigSep_elim (Finset.mem_univ ck)
  unfold recs; iintro ⟨⟨H, -⟩, -⟩; iapply h; iexact H
theorem recs_reached (K : Dev nD × Option Key → ℕ) (ck : Dev nD × Option Key) : recs m K ⊢ (reached ER (kcell ck) 0 : sProp 𝕄) := by
  have h : (bigSep Finset.univ fun ck : Dev nD × Option Key => (reached ER (kcell ck) 0 : sProp 𝕄)) ⊢ reached ER (kcell ck) 0 :=
    bigSep_elim (Finset.mem_univ ck)
  unfold recs; iintro ⟨⟨-, H⟩, -⟩; iapply h; iexact H
theorem recs_levs (K : Dev nD × Option Key → ℕ) : recs m K ⊢ (levAts Lx lv : sProp 𝕄) := by
  unfold recs; iintro ⟨-, H⟩; iexact H

end Cert.KernelIdeal.Chunked

end
-- ==== Proof.Rules.lean ====
/-
# One chunk of each pass

For each pass of the kernel, what running it for one chunk needs and what it gives.
-/
module

public import proofs.«01_k».proof.Proof.Protocol

@[expose] public section

noncomputable section

namespace Cert.KernelIdeal.Chunked

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- A program run on device `c`'s TensorCore. -/
abbrev WP (c : Dev nD) (p : Pg F) (Q : PUnit → sProp 𝕄) : sProp 𝕄 :=
  wp frame (wpE (defs₀ (F := F)) 𝒱₀ (c : Thread nD τ) none) Set.univ p Q

variable (m : (ℓ : Loc nD τ sig) → Buf (Elt F) ℓ) (K : Dev nD × Option Key → ℕ) (c : Dev nD)

/-- What device `c` owes, whatever waits are on record. -/
def owing (O : CellTallies nD τ sig Unit) : sProp 𝕄 := iprop(∃ W, owes (c : Thread nD τ) O W)

/-- The credit for a transfer, the position before it and the duty of starting it. -/
abbrev credit (k : Key) : sProp 𝕄 := cred (tallyAt (cell c k) () (amt k))
abbrev pos (k : Key) : sProp 𝕄 := atPos ER (cell c k) 0 ∅ 0
abbrev tok (k : Key) : sProp 𝕄 := dutyTok ER (cell c k) 0 false
/-- The semaphore's counter at zero. -/
abbrev done (k : Key) : sProp 𝕄 := semVal (cell c k) 0

variable {c} in
omit [FloatOps F] in
/-- Elements at contents are elements at the value they read. -/
theorem holds_of {sp : Space} {s : Shape} {e : EltTy} {M : Memref sig .tc sp s e} {q : PosShare TreeShare} {f : M.view.ty.Contents (Elt F)} {X : s.Idx → Elt F e}
    (h : M.view.read (Elt F) f = X) : (M.view.loc (c : Thread nD τ) ↦[M.view.set]{q} f : sProp 𝕄) ⊢ holds c M q X := by
  unfold holds owns; iintro H; iexists f; isplitr
  · ipureintro; exact h
  · iexact H

omit [FloatOps F] in
theorem held_of {sp : Space} {s : Shape} {e : EltTy} {M : Memref sig .tc sp s e} {X : s.Idx → Elt F e} : holds c M fullShare X ⊢ (held c M : sProp 𝕄) := by
  unfold holds owns held; iintro ⟨%f, -, H⟩; iexists f; iexact H

/-! ## Waits, loads and stores -/

/-- A wait for a transfer of a chunk: what it delivers, and its semaphore at zero. -/
theorem wp_wait (k : Key) {sem : DmaSem sig} {sp sp' : Space} {s : Shape} {e : EltTy} {src : Memref sig .tc sp s e} {dst : Memref sig .tc sp' s e}
    {hsrc : src.view.WordExact} {hdst : dst.view.WordExact} (hsem : SemLoc.dma sem = keySem k) (hN : dst.view.dmaCredit = amt k)
    (n : ℕ) {O : CellTallies nD τ sig Unit} (hs : lv (cell c k) () ≤ n) (hO : Above n O) {p : PUnit → Pg F} {Q : PUnit → sProp 𝕄} :
    iprop(recs m K ∗ credit c k ∗ pos c k ∗ owing c O)
      ⊢ iprop(((pay m c k ∗ done c k ∗ owing c O) -∗ WP c (p ⟨⟩) Q) -∗ WP c (.op (.waitDma2 sem src dst hsrc hdst) p) Q) := by
  have hw (Q : PUnit → sProp 𝕄) : wpE (defs₀ (F := F)) 𝒱₀ (c : Thread nD τ) none Set.univ (.waitDma2 sem src dst hsrc hdst) Q
      = waitSpec (c : Thread nD τ) Set.univ (keySem k) (amt k) Q := by rw [← hsem, ← hN]; exact wpE_waitDma2_eq 𝒱₀ (c : Thread nD τ) none Set.univ Q
  unfold owing
  iintro ⟨#HR, Hc, Hp, ⟨%W, HO⟩⟩ Hk
  iapply (Rounds.wp_wait_rest_token 𝒱₀ ER (sched m) (c : Thread nD τ) none (κ := K (c, some k)) hw (Set.mem_univ _) () (O := O) (W := W) (R := 0) (m := 0) (T := ∅)
      (by rw [Nat.zero_add, expect_cell])) $$ [Hc HO Hp]
  · isplitr; · iapply (recs_inv m K (c, some k)); iexact HR
    isplitl [Hc]; · iexact Hc
    isplitl [HO]; · iexact HO
    isplitr
    · iapply (mayWait c (keySem k) O n hs hO); iapply (recs_levs m K); iexact HR
    iexact Hp
  iintro ⟨HO, Hp, -, Hpay⟩
  ihave Hpay := (Entails.of_eq (rest_cell m c k)) $$ Hpay
  imod (Rounds.cell_close ER (sched m) (Set.mem_univ (K (c, some k))) (fun h => h) (R := 0 + 1) (duties_later m (cell c k))) $$ [Hp] with Hz
  · isplitr; · iapply (recs_inv m K (c, some k)); iexact HR
    iexact Hp
  iapply Hk
  isplitl [Hpay]; · iexact Hpay
  isplitl [Hz]; · iexact Hz
  iexists _; iexact HO

variable {i : Fin 18}

/-- A load of a chunk that is held. -/
theorem wp_load_holds {e : EltTy} {M : Memref sig .tc .vmem S1024x2048 e} {hl : M.view.LoadsAt (row i).toLoadRect} {q : PosShare TreeShare} {X : (CS i).Idx → Elt F e}
    {p : ((CS i).Idx → Elt F e) → Pg F} {Q : PUnit → sProp 𝕄} :
    holds c (ch M i) q X ⊢ iprop((holds c (ch M i) q X -∗ WP c (p X) Q) -∗ WP c (.op (.load M (row i).toLoadRect hl) p) Q) := by
  unfold holds owns
  iintro ⟨%f, %hf, H⟩ Hk
  subst hf
  iapply (wp_load_rect 𝒱₀ (c : Thread nD τ) none Set.univ (m := M) (r := row i) (subset_refl _)) $$ H
  iintro H
  iapply Hk
  iexists f; isplitr
  · ipureintro; rfl
  · iexact H

/-- A load whose value is not used. -/
theorem wp_load_held {e : EltTy} {M : Memref sig .tc .vmem S1024x2048 e} {hl : M.view.LoadsAt (row i).toLoadRect}
    {p : Pg F} {Q : PUnit → sProp 𝕄} :
    held c (ch M i) ⊢ iprop((held c (ch M i) -∗ WP c p Q) -∗ WP c (.op (.load M (row i).toLoadRect hl) fun _ => p) Q) := by
  unfold held
  iintro ⟨%f, H⟩ Hk
  iapply (wp_load_rect 𝒱₀ (c : Thread nD τ) none Set.univ (m := M) (r := row i) (subset_refl _)) $$ H
  iintro H
  iapply Hk
  iexists f; iexact H

/-- A store over a whole chunk. -/
theorem wp_store_held {e : EltTy} {M : Memref sig .tc .vmem S1024x2048 e} {X : (CS i).Idx → Elt F e} {hx : (M.access (row i)).Stores Finset.univ} {hm}
    {p : PUnit → Pg F} {Q : PUnit → sProp 𝕄} :
    held c (ch M i) ⊢ iprop((holds c (ch M i) fullShare X -∗ WP c (p ⟨⟩) Q) -∗ WP c (.op (.store M (row i) X Finset.univ hx hm) p) Q) := by
  unfold held
  iintro ⟨%f, H⟩ Hk
  iapply (wp_store 𝒱₀ (c : Thread nD τ) none Set.univ (m := M) (r := row i) (Mk := Finset.univ) (S := (ch M i).view.set) (f := f) (subset_refl _)) $$ H
  iintro H
  iapply Hk
  iapply (holds_of (c := c) (M := ch M i) (View.read_write_univ _ X)); iexact H

/-! ## Local copies -/

/-- A local copy started for a transfer: what it delivers is made of the written destination and the source share. -/
theorem wp_start (k : Key) {sp sp' : Space} {s : Shape} {e : EltTy} {src : Memref sig .tc sp s e} {dst : Memref sig .tc sp' s e}
    {hsrc : src.view.WordExact} {hdst : dst.view.WordExact} {hsem : DmaTarget.Typed sp (keySem k) (DmaTarget.here (nD := nD) (τ := τ) (p := .tc) dst)}
    {q : PosShare TreeShare} {X : s.Idx → Elt F e} (hN : dst.view.amount (keySem k) = amt k)
    (hpay : iprop(holds c dst fullShare X ∗ holds c src q X) ⊢ pay m c k) {p : PUnit → Pg F} {Q : PUnit → sProp 𝕄} :
    iprop(recs m K ∗ holds c src q X ∗ held c dst ∗ tok c k)
      ⊢ iprop((credit c k -∗ WP c (p ⟨⟩) Q) -∗ WP c (.op (.enqueueDma src (.here dst) (keySem k) hsrc hdst hsem) p) Q) := by
  unfold holds owns held
  iintro ⟨#HR, ⟨%fs, %hfs, Hs⟩, ⟨%fd, Hd⟩, Ht⟩
  iapply (Rounds.wp_copy_pointsTo 𝒱₀ ER (sched m) (c : Thread nD τ) none (κ := K (c, some k)) (r := 0) (d := false) (q := q) (fs := fs) (fd := fd)
    (by rw [duties_cell]; exact Finset.mem_singleton_self _) () (amt k) hN (amount_cell m c k false)
    (by
      rw [payload_cell]
      exact (BIClass.sep_mono (holds_of (View.read_write_univ _ _ |>.trans hfs)) (holds_of hfs)).trans hpay))
  isplitr; · iapply (recs_inv m K (c, some k)); iexact HR
  isplitl [Hs]; · iexact Hs
  isplitl [Hd]; · iexact Hd
  isplitl [Ht]; · iexact Ht
  iapply (recs_reached m K (c, some k)); iexact HR

/-! ## Remote copies -/

/-- A send from device `c` to device `c'`, leaving by `k` and landing by `k'`. -/
theorem wp_post (c' : Dev nD) (k k' : Key) {sp sp' : Space} {s : Shape} {e : EltTy} {src : Memref sig .tc sp s e} {dst : Memref sig .tc sp' s e}
    {hsc : (dst : Memref sig (Dev.tc c' : Thread nD τ).2.kind sp' s e).view.ref.isScScratch = false}
    {hsrc : src.view.WordExact} {hdst : dst.view.WordExact} {hsem : DmaTarget.Typed sp (keySem k') (.remote (Dev.tc c' : Thread nD τ) dst (keySem k) hsc)}
    {q : PosShare TreeShare} {X : s.Idx → Elt F e} (hN : dst.view.amount (keySem k') = amt k') (hkk : amt k = amt k')
    (hpay : holds c src q X ⊢ pay m c k) (hpay' : holds c' dst fullShare X ⊢ pay m c' k')
    (O : CellTallies nD τ sig Unit) {p : PUnit → Pg F} {Q : PUnit → sProp 𝕄} :
    iprop(recs m K ∗ holds c src q X ∗ held c' dst ∗ tok c k ∗ tok c' k' ∗ owing c (O + tallyAt (cell c' k') () (amt k')))
      ⊢ iprop(((credit c k ∗ owing c O) -∗ WP c (p ⟨⟩) Q)
          -∗ WP c (.op (.enqueueDma src (.remote (Dev.tc c' : Thread nD τ) dst (keySem k) hsc) (keySem k') hsrc hdst hsem) p) Q) := by
  unfold holds owns held owing
  iintro ⟨#HR, ⟨%fs, %hfs, Hs⟩, ⟨%fd, Hd⟩, Ht, Ht', ⟨%W, HO⟩⟩ Hk
  iapply (Rounds.wp_send_pointsTo 𝒱₀ ER (sched m) (c : Thread nD τ) none (c' := (c' : Thread nD τ)) (κ₁ := K (c, some k)) (κ₂ := K (c', some k')) (r₁ := 0) (r₂ := 0) (d₁ := false) (d₂ := false)
    (q := q) (fs := fs) (fd := fd)
    (by rw [duties_cell]; exact Finset.mem_singleton_self _) (by rw [duties_cell]; exact Finset.mem_singleton_self _)
    () () (amt k') hN ((amount_cell m c k false).trans hkk) (amount_cell m c' k' false) O rfl (W := W)
    (by rw [payload_cell]; exact (holds_of hfs).trans hpay)
    (by rw [payload_cell]; exact (holds_of (c := c') (View.read_write_univ _ _ |>.trans hfs)).trans hpay')) $$ [Hs Hd Ht Ht' HO]
  · isplitr; · iapply (recs_inv m K (c, some k)); iexact HR
    isplitr; · iapply (recs_inv m K (c', some k')); iexact HR
    isplitl [Hs]; · iexact Hs
    isplitl [Hd]; · iexact Hd
    isplitl [HO]; · iexact HO
    isplitl [Ht]; · iexact Ht
    isplitr; · iapply (recs_reached m K (c, some k)); iexact HR
    isplitl [Ht']; · iexact Ht'
    iapply (recs_reached m K (c', some k')); iexact HR
  iintro ⟨Hc, HO⟩
  iapply Hk
  isplitl [Hc]
  · unfold credit; rw [hkk]; iexact Hc
  · iexists W; iexact HO

end Cert.KernelIdeal.Chunked

end
-- ==== Proof.Passes.lean ====
/-
# The passes of the kernel

`Step` says what one pass needs and gives for a chunk, together with a state that depends on the chunks still to come;
`wp_each` runs a pass over all of them. The theorems after it are the passes, in the order the kernel runs them.
-/
module

public import proofs.«01_k».proof.Proof.Rules

@[expose] public section

noncomputable section

namespace Cert.KernelIdeal.Chunked

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Option Key → ℕ) (c : Dev nD)

/-! ## Running a pass -/

/-- One pass at one chunk, the chunks of `l` still to come after it. -/
def Step (f : Fin 18 → Pg F) (pre post : Fin 18 → sProp 𝕄) (St : List (Fin 18) → sProp 𝕄) : Prop :=
  ∀ (i : Fin 18) (l : List (Fin 18)) (p : Pg F) (Q : PUnit → sProp 𝕄),
    iprop(recs m K ∗ pre i ∗ St (i :: l)) ⊢ iprop(((post i ∗ St l) -∗ WP c p Q) -∗ WP c (f i >>= fun _ => p) Q)

theorem wp_each {f : Fin 18 → Pg F} {pre post : Fin 18 → sProp 𝕄} {St : List (Fin 18) → sProp 𝕄} (h : Step m K c f pre post St) :
    ∀ (l : List (Fin 18)) (hl : l.Nodup) (p : Pg F) (Q : PUnit → sProp 𝕄),
      iprop(recs m K ∗ bigSep l.toFinset pre ∗ St l) ⊢ iprop(((bigSep l.toFinset post ∗ St []) -∗ WP c p Q) -∗ WP c (each f l p) Q)
  | [], _, p, Q => by
    rw [List.toFinset_nil, bigSep_empty, bigSep_empty]
    iintro ⟨-, He, HS⟩ Hk
    iapply Hk
    isplitl [He] <;> iassumption
  | i :: l, hl, p, Q => by
    have hi : i ∉ l.toFinset := fun hi => (List.nodup_cons.mp hl).1 (List.mem_toFinset.mp hi)
    have hins (Φ : Fin 18 → sProp 𝕄) : bigSep (insert i l.toFinset) Φ = iprop(Φ i ∗ bigSep l.toFinset Φ) := bigSep_insert hi
    rw [List.toFinset_cons, hins, hins]
    iintro ⟨#HR, ⟨Hi, Hl⟩, HS⟩ Hk
    iapply (h i l (each f l p) Q) $$ [Hi HS]
    · isplitr; · iexact HR
      isplitl [Hi] <;> iassumption
    iintro ⟨Hpost, HS⟩
    iapply (wp_each h l (List.nodup_cons.mp hl).2 p Q) $$ [Hl HS]
    · isplitr; · iexact HR
      isplitl [Hl] <;> iassumption
    iintro ⟨Hposts, HS⟩
    iapply Hk
    isplitr [HS]
    · isplitl [Hpost] <;> iassumption
    iexact HS

theorem chunks_nodup : chunks.Nodup := by decide
theorem chunks_toFinset : chunks.toFinset = Finset.univ := by decide

/-- A pass over all the chunks. -/
theorem wp_pass {f : Fin 18 → Pg F} {pre post : Fin 18 → sProp 𝕄} {St : List (Fin 18) → sProp 𝕄} (h : Step m K c f pre post St)
    (p : Pg F) (Q : PUnit → sProp 𝕄) :
    iprop(recs m K ∗ bigSep Finset.univ pre ∗ St chunks) ⊢ iprop(((bigSep Finset.univ post ∗ St []) -∗ WP c p Q) -∗ WP c (each f chunks p) Q) := by
  have := wp_each m K c h chunks chunks_nodup p Q
  rwa [chunks_toFinset] at this

/-! ## The credits of the 16-bit transfers are the same in every buffer -/

theorem credit_yr (i : Fin 18) : (ch yrM i).view.dmaCredit = (ch ysM i).view.dmaCredit := rfl
theorem credit_xs (i : Fin 18) : (ch xsM i).view.dmaCredit = (ch ysM i).view.dmaCredit := rfl
theorem credit_xr (i : Fin 18) : (ch xrM i).view.dmaCredit = (ch ysM i).view.dmaCredit := rfl
theorem credit_own (i : Fin 18) : (oOwn c i).view.dmaCredit = (ch ysM i).view.dmaCredit := rfl
theorem credit_peer (i : Fin 18) : (oPeer c i).view.dmaCredit = (ch ysM i).view.dmaCredit := rfl
theorem credit_ms (i : Fin 18) : (ch msM i).view.dmaCredit = (ch psM i).view.dmaCredit := rfl

/-! ## The staging copies start -/

theorem step_st1 (q : Fin 18 → PosShare TreeShare) :
    Step m K c (st1 c) (fun i => iprop(holds c (pPeer c i) (q i) (pv m c i) ∗ held c (ch psM i) ∗ tok c (.st1, i)))
      (fun i => credit c (.st1, i)) (fun _ => iprop(emp)) := fun i l p Q => by
  unfold st1; simp only [Prog.lift, Prog.bind_op, Prog.bind_ret]
  iintro ⟨#HR, ⟨Hs, Hd, Ht⟩, -⟩ Hk
  iapply (wp_start m K c (.st1, i) (q := q i) (X := pv m c i) rfl (by unfold pay; iintro ⟨H, -⟩; iexact H)) $$ [Hs Hd Ht]
  · isplitr; · iexact HR
    isplitl [Hs]; · iexact Hs
    isplitl [Hd] <;> iassumption
  iintro Hc
  iapply Hk; isplitl [Hc]; · iexact Hc
  iempintro

theorem step_st2 (q : Fin 18 → PosShare TreeShare) :
    Step m K c (st2 c) (fun i => iprop(holds c (pOwn c i) (q i) (ov m c i) ∗ held c (ch msM i) ∗ tok c (.st2, i)))
      (fun i => credit c (.st2, i)) (fun _ => iprop(emp)) := fun i l p Q => by
  unfold st2; simp only [Prog.lift, Prog.bind_op, Prog.bind_ret]
  iintro ⟨#HR, ⟨Hs, Hd, Ht⟩, -⟩ Hk
  iapply (wp_start m K c (.st2, i) (q := q i) (X := ov m c i) (credit_ms i) (by unfold pay; iintro ⟨H, -⟩; iexact H)) $$ [Hs Hd Ht]
  · isplitr; · iexact HR
    isplitl [Hs]; · iexact Hs
    isplitl [Hd] <;> iassumption
  iintro Hc
  iapply Hk; isplitl [Hc]; · iexact Hc
  iempintro

/-! ## The sends to the y-peer -/

theorem step_sendY :
    Step m K c (sendY c)
      (fun i => iprop(credit c (.st1, i) ∗ pos c (.st1, i) ∗ held c (ch ysM i) ∗ held (yDev c) (ch yrM i) ∗ tok c (.ys, i) ∗ tok (yDev c) (.yr, i)))
      (fun i => iprop(done c (.st1, i) ∗ held c (ch psM i) ∗ credit c (.ys, i)))
      (fun l => owing c (owedY c l)) := fun i l p Q => by
  unfold sendY; simp only [Prog.lift, Prog.bind_op, Prog.bind_ret, bind_assoc]
  iintro ⟨#HR, ⟨Hc, Hp, Hys, Hyr, Ht, Ht'⟩, HO⟩ Hk
  iapply (wp_wait m K c (.st1, i) rfl rfl 0 (by rw [lv_cell]) (above_Y c (by decide) _)) $$ [Hc Hp HO]
  · isplitr; · iexact HR
    isplitl [Hc]; · iexact Hc
    isplitl [Hp] <;> iassumption
  unfold pay
  iintro ⟨Hv, Hz, HO⟩
  iapply (wp_load_holds c (X := pv m c i)) $$ Hv; iintro Hv
  iapply (wp_load_held c) $$ Hys; iintro Hys
  iapply (wp_store_held c (X := yv m c i)) $$ Hys; iintro Hys
  iapply (wp_post m K c (yDev c) (.ys, i) (.yr, i) (X := yv m c i) (credit_yr i) rfl (by exact BI.Entails.refl _)
    (by unfold pay; rw [yDev_yDev]) (owedY c l)) $$ [Hys Hyr Ht Ht' HO]
  · isplitr; · iexact HR
    isplitl [Hys]; · iexact Hys
    isplitl [Hyr]; · iexact Hyr
    isplitl [Ht]; · iexact Ht
    isplitl [Ht']; · iexact Ht'
    iexact HO
  iintro ⟨Hc, HO⟩
  iapply Hk
  isplitr [HO]
  · isplitl [Hz]; · iexact Hz
    isplitl [Hv]; · iapply (held_of c); iexact Hv
    iexact Hc
  iexact HO

/-! ## The sum, the norm, the sends to the x-peer and the copies out -/

theorem step_sendX :
    Step m K c (sendX c)
      (fun i => iprop(credit c (.st2, i) ∗ pos c (.st2, i) ∗ credit c (.yr, i) ∗ pos c (.yr, i) ∗ held c (ch xsM i) ∗ held (xDev c) (ch xrM i)
        ∗ tok c (.xs, i) ∗ tok (xDev c) (.xr, i) ∗ held c (oOwn c i) ∗ tok c (.o1, i)))
      (fun i => iprop(done c (.st2, i) ∗ done c (.yr, i) ∗ held c (ch msM i) ∗ held c (ch yrM i) ∗ credit c (.xs, i) ∗ credit c (.o1, i)))
      (fun l => iprop(owing c (owedX c l) ∗ ((gM.view.loc (c : Thread nD τ)) ↦{fullShare} gst m c))) := fun i l p Q => by
  unfold sendX; simp only [Prog.lift, Prog.bind_op, Prog.bind_ret, bind_assoc]
  iintro ⟨#HR, ⟨Hc, Hp, Hc', Hp', Hxs, Hxr, Ht, Ht', Ho, Hto⟩, HO, Hg⟩ Hk
  iapply (wp_wait m K c (.st2, i) rfl (credit_ms i) 0 (by rw [lv_cell]) (above_X c (by decide) _)) $$ [Hc Hp HO]
  · isplitr; · iexact HR
    isplitl [Hc]; · iexact Hc
    isplitl [Hp] <;> iassumption
  iintro ⟨Hv, Hz, HO⟩
  iapply (wp_wait m K c (.yr, i) rfl (credit_yr i) 2 (by rw [lv_cell]) (above_X c (by decide) _)) $$ [Hc' Hp' HO]
  · isplitr; · iexact HR
    isplitl [Hc']; · iexact Hc'
    isplitl [Hp'] <;> iassumption
  unfold pay
  iintro ⟨Hw, Hz', HO⟩
  iapply (wp_load_holds c (X := ov m c i)) $$ Hv; iintro Hv
  iapply (wp_load_holds c (X := yv m (yDev c) i)) $$ Hw; iintro Hw
  iapply (wp_load 𝒱₀ (c : Thread nD τ) none Set.univ (m := gM) (Finset.subset_univ _)) $$ Hg; iintro Hg
  iapply (wp_load_held c) $$ Hxs; iintro Hxs
  iapply (wp_store_held c (X := xv m c i)) $$ Hxs; iintro Hxs
  ihave Hxs := (owns_halves (c : Thread nD τ) (ch xsM i) fullShare (xv m c i)).1 $$ Hxs
  icases Hxs with ⟨Hxl, Hxr'⟩
  iapply (wp_post m K c (xDev c) (.xs, i) (.xr, i) (q := fullShare.left) (X := xv m c i) (credit_xr i) rfl (by exact BI.Entails.refl _)
    (by unfold pay; rw [xDev_xDev]) (owedX c l)) $$ [Hxl Hxr Ht Ht' HO]
  · isplitr; · iexact HR
    isplitl [Hxl]; · iexact Hxl
    isplitl [Hxr]; · iexact Hxr
    isplitl [Ht]; · iexact Ht
    isplitl [Ht']; · iexact Ht'
    iexact HO
  iintro ⟨Hc, HO⟩
  iapply (wp_start m K c (.o1, i) (q := fullShare.right) (X := xv m c i) (credit_own c i) (by exact BI.Entails.refl _)) $$ [Hxr' Ho Hto]
  · isplitr; · iexact HR
    isplitl [Hxr']; · iexact Hxr'
    isplitl [Ho] <;> iassumption
  iintro Hc'
  iapply Hk
  isplitr [HO Hg]
  · isplitl [Hz]; · iexact Hz
    isplitl [Hz']; · iexact Hz'
    isplitl [Hv]; · iapply (held_of c); iexact Hv
    isplitl [Hw]; · iapply (held_of c); iexact Hw
    isplitl [Hc] <;> iassumption
  isplitl [HO] <;> iassumption

/-! ## The copies out of what the x-peer sent -/

theorem step_outX :
    Step m K c (outX c)
      (fun i => iprop(credit c (.xr, i) ∗ pos c (.xr, i) ∗ held c (oPeer c i) ∗ tok c (.o2, i)))
      (fun i => iprop(done c (.xr, i) ∗ credit c (.o2, i)))
      (fun _ => owing c 0) := fun i l p Q => by
  unfold outX; simp only [Prog.lift, Prog.bind_op, Prog.bind_ret, bind_assoc]
  iintro ⟨#HR, ⟨Hc, Hp, Ho, Ht⟩, HO⟩ Hk
  iapply (wp_wait m K c (.xr, i) rfl (credit_xr i) 3 (by rw [lv_cell]) (above_zero _)) $$ [Hc Hp HO]
  · isplitr; · iexact HR
    isplitl [Hc]; · iexact Hc
    isplitl [Hp] <;> iassumption
  unfold pay
  iintro ⟨Hv, Hz, HO⟩
  iapply (wp_start m K c (.o2, i) (q := fullShare) (X := xv m (xDev c) i) (credit_peer c i) (by exact BI.Entails.refl _)) $$ [Hv Ho Ht]
  · isplitr; · iexact HR
    isplitl [Hv]; · iexact Hv
    isplitl [Ho] <;> iassumption
  iintro Hc
  iapply Hk
  isplitr [HO]
  · isplitl [Hz] <;> iassumption
  iexact HO

/-! ## The waits at the end -/

theorem step_end1 :
    Step m K c (end1 c) (fun i => iprop(credit c (.o1, i) ∗ pos c (.o1, i)))
      (fun i => iprop(done c (.o1, i) ∗ holds c (oOwn c i) fullShare (xv m c i) ∗ holds c (ch xsM i) fullShare.right (xv m c i)))
      (fun _ => owing c 0) := fun i l p Q => by
  unfold end1; simp only [Prog.lift, Prog.bind_op, Prog.bind_ret]
  iintro ⟨#HR, ⟨Hc, Hp⟩, HO⟩ Hk
  iapply (wp_wait m K c (.o1, i) rfl (credit_own c i) 0 (by rw [lv_cell]) (above_zero _)) $$ [Hc Hp HO]
  · isplitr; · iexact HR
    isplitl [Hc]; · iexact Hc
    isplitl [Hp] <;> iassumption
  unfold pay
  iintro ⟨⟨Ho, Hx⟩, Hz, HO⟩
  iapply Hk
  isplitr [HO]
  · isplitl [Hz]; · iexact Hz
    isplitl [Ho] <;> iassumption
  iexact HO

theorem step_end2 :
    Step m K c (end2 c) (fun i => iprop(credit c (.o2, i) ∗ pos c (.o2, i)))
      (fun i => iprop(done c (.o2, i) ∗ holds c (oPeer c i) fullShare (xv m (xDev c) i) ∗ held c (ch xrM i)))
      (fun _ => owing c 0) := fun i l p Q => by
  unfold end2; simp only [Prog.lift, Prog.bind_op, Prog.bind_ret]
  iintro ⟨#HR, ⟨Hc, Hp⟩, HO⟩ Hk
  iapply (wp_wait m K c (.o2, i) rfl (credit_peer c i) 0 (by rw [lv_cell]) (above_zero _)) $$ [Hc Hp HO]
  · isplitr; · iexact HR
    isplitl [Hc]; · iexact Hc
    isplitl [Hp] <;> iassumption
  unfold pay
  iintro ⟨⟨Ho, Hx⟩, Hz, HO⟩
  iapply Hk
  isplitr [HO]
  · isplitl [Hz]; · iexact Hz
    isplitl [Ho]; · iexact Ho
    iapply (held_of c); iexact Hx
  iexact HO

theorem step_end3 :
    Step m K c (end3 (F := F)) (fun i => iprop(credit c (.ys, i) ∗ pos c (.ys, i) ∗ credit c (.xs, i) ∗ pos c (.xs, i) ∗ holds c (ch xsM i) fullShare.right (xv m c i)))
      (fun i => iprop(done c (.ys, i) ∗ done c (.xs, i) ∗ held c (ch ysM i) ∗ held c (ch xsM i)))
      (fun _ => owing c 0) := fun i l p Q => by
  unfold end3; simp only [Prog.lift, Prog.bind_op, Prog.bind_ret, bind_assoc]
  iintro ⟨#HR, ⟨Hc, Hp, Hc', Hp', Hx⟩, HO⟩ Hk
  iapply (wp_wait m K c (.ys, i) rfl rfl 0 (by rw [lv_cell]) (above_zero _)) $$ [Hc Hp HO]
  · isplitr; · iexact HR
    isplitl [Hc]; · iexact Hc
    isplitl [Hp] <;> iassumption
  iintro ⟨Hy, Hz, HO⟩
  iapply (wp_wait m K c (.xs, i) rfl (credit_xs i) 0 (by rw [lv_cell]) (above_zero _)) $$ [Hc' Hp' HO]
  · isplitr; · iexact HR
    isplitl [Hc']; · iexact Hc'
    isplitl [Hp'] <;> iassumption
  unfold pay
  iintro ⟨Hx', Hz', HO⟩
  iapply Hk
  isplitr [HO]
  · isplitl [Hz]; · iexact Hz
    isplitl [Hz']; · iexact Hz'
    isplitl [Hy]; · iapply (held_of c); iexact Hy
    iapply (held_of c (X := xv m c i))
    iapply (owns_halves (c : Thread nD τ) (ch xsM i) fullShare (xv m c i)).2
    isplitl [Hx'] <;> iassumption
  iexact HO

end Cert.KernelIdeal.Chunked

end
-- ==== Proof.BodyEq.lean ====
/-
# The printed kernel is the passes

The printed, unrolled body and the passes over the chunks are the same program.
-/
module

public import proofs.«01_k».proof.Proof.Steps
public import Idealize.ShloMosaic.Lib.Pipeline.Regions

@[expose] public section

noncomputable section

namespace Cert.KernelIdeal.Chunked

open Cert.KernelIdeal Cert.KernelIdeal.Gen
open Idealize.ShloMosaic Idealize.ShloMosaic.TcCoe
open Idealize.SL Idealize.SL.Sem

variable {F : FTy → Type} [FloatOps F]

/-- The printed body, of the kernel's own buffers and semaphores, is the passes one after another. -/
theorem body_eq : cc0_body (F := F) pM (Memref.isWhole_whole _) gM (Memref.isWhole_whole _) oM (Memref.isWhole_whole _) psM (Memref.isWhole_whole _)
    msM (Memref.isWhole_whole _) ysM (Memref.isWhole_whole _) yrM (Memref.isWhole_whole _) xsM (Memref.isWhole_whole _) xrM (Memref.isWhole_whole _)
    cc0_scratch6 cc0_scratch7 cc0_scratch8 cc0_scratch9 cc0_scratch10 cc0_scratch11 cc0_scratch12 cc0_scratch13 = body := by
  chain_rfl

end Cert.KernelIdeal.Chunked

end
-- ==== Proof.Body.lean ====
/-
# The kernel on one device

The handshake and then the passes, one after another: from what device `c` holds when it enters the kernel to what it
holds when it leaves.
-/
module

public import proofs.«01_k».proof.Proof.Passes
public import proofs.«01_k».proof.Proof.BodyEq

@[expose] public section

noncomputable section

namespace Cert.KernelIdeal.Chunked

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Option Key → ℕ) (c : Dev nD)

/-- Something for every chunk. -/
abbrev all (Φ : Fin 18 → sProp 𝕄) : sProp 𝕄 := bigSep Finset.univ Φ

/-- The shares of the partial sums the staging copies read through. -/
abbrev shP (i : Fin 18) : PosShare TreeShare := Transfers.shareTok fullShare.right.left 18 i
abbrev shO (i : Fin 18) : PosShare TreeShare := Transfers.shareTok fullShare.right.right 18 i

/-- The positions before the transfers that end on device `c`. -/
def poss : sProp 𝕄 :=
  iprop(all (fun i => pos c (.st1, i)) ∗ all (fun i => pos c (.st2, i)) ∗ all (fun i => pos c (.ys, i)) ∗ all (fun i => pos c (.yr, i))
    ∗ all (fun i => pos c (.xs, i)) ∗ all (fun i => pos c (.xr, i)) ∗ all (fun i => pos c (.o1, i)) ∗ all (fun i => pos c (.o2, i)))

/-- The duties device `c` performs. -/
def toks : sProp 𝕄 :=
  iprop(all (fun i => tok c (.st1, i)) ∗ all (fun i => tok c (.st2, i)) ∗ all (fun i => tok c (.ys, i)) ∗ all (fun i => tok (yDev c) (.yr, i))
    ∗ all (fun i => tok c (.xs, i)) ∗ all (fun i => tok (xDev c) (.xr, i)) ∗ all (fun i => tok c (.o1, i)) ∗ all (fun i => tok c (.o2, i)))

/-- Its part of the barrier. -/
def barPart : sProp 𝕄 :=
  iprop(atPos ER (barCell c) 0 ∅ 0 ∗ dutyTok ER (barCell (yDev c)) 0 false ∗ dutyTok ER (barCell (xDev c)) 0 true)

/-- The credit for what the neighbours owe it. -/
def credits : sProp 𝕄 :=
  iprop(cred (tallyAt (barCell c) () 2) ∗ all (fun i => credit c (.yr, i)) ∗ all (fun i => credit c (.xr, i)))

/-- Its scratch buffers, chunk by chunk. -/
def scratch : sProp 𝕄 :=
  iprop(all (fun i => held c (ch psM i)) ∗ all (fun i => held c (ch msM i)) ∗ all (fun i => held c (ch ysM i)) ∗ all (fun i => held c (ch yrM i))
    ∗ all (fun i => held c (ch xsM i)) ∗ all (fun i => held c (ch xrM i)))

/-- The partial sums it reads. -/
def srcs : sProp 𝕄 := iprop(all (fun i => holds c (pPeer c i) (shP i) (pv m c i)) ∗ all (fun i => holds c (pOwn c i) (shO i) (ov m c i)))
/-- The result before, -/
def outs₀ : sProp 𝕄 := iprop(all (fun i => held c (oOwn c i)) ∗ all (fun i => held c (oPeer c i)))
/-- and after. -/
def outs : sProp 𝕄 := iprop(all (fun i => holds c (oOwn c i) fullShare (xv m c i)) ∗ all (fun i => holds c (oPeer c i) fullShare (xv m (xDev c) i)))

/-- The semaphores at zero. -/
def dones : sProp 𝕄 :=
  iprop(all (fun i => done c (.st1, i)) ∗ all (fun i => done c (.st2, i)) ∗ all (fun i => done c (.ys, i)) ∗ all (fun i => done c (.yr, i))
    ∗ all (fun i => done c (.xs, i)) ∗ all (fun i => done c (.xr, i)) ∗ all (fun i => done c (.o1, i)) ∗ all (fun i => done c (.o2, i)))

/-- Gamma, staged. -/
def gam : sProp 𝕄 := iprop((gM.view.loc (c : Thread nD τ)) ↦{fullShare} gst m c)

/-- The handshake: a device gives both its landing buffers away and gets its neighbours'. -/
theorem wp_hand {p : Pg F} {Q : PUnit → sProp 𝕄} :
    iprop(recs m K ∗ barPart c ∗ cred (tallyAt (barCell c) () 2) ∗ all (fun i => held c (ch yrM i)) ∗ all (fun i => held c (ch xrM i)) ∗ owing c (owed₀ c))
      ⊢ iprop(((semVal (barCell c) 0 ∗ all (fun i => held (yDev c) (ch yrM i)) ∗ all (fun i => held (xDev c) (ch xrM i)) ∗ owing c (owedY c chunks))
            -∗ WP c p Q) -∗ WP c (hand c >>= fun _ => p) Q) := by
  unfold hand; simp only [semSignalWord, semWaitWord, Prog.lift, Prog.bind_op, Prog.bind_ret, bind_assoc]
  unfold barPart owing owed₀
  iintro ⟨#HR, ⟨Hp, Ht, Ht'⟩, Hc, Hy, Hx, ⟨%W, HO⟩⟩ Hk
  iapply (Rounds.wp_signal 𝒱₀ ER (sched m) (c : Thread nD τ) none (dst := (yDev c : Thread nD τ)) (κ := K (yDev c, none))
      (d := false) (by rw [duties_bar]; exact Finset.mem_univ _) ((amount_bar m (yDev c) false).trans (by decide)) () (owedB c) rfl)
    $$ [HO Ht Hy]
  · isplitr; · iapply (recs_inv m K (yDev c, none)); iexact HR
    isplitl [HO]; · iexact HO
    isplitl [Ht]; · iexact Ht
    isplitl [Hy]
    · rw [payload_bar]; unfold barPay; rw [yDev_yDev]; iexact Hy
    iapply (recs_reached m K (yDev c, none)); iexact HR
  iintro HO
  unfold owedB
  iapply (Rounds.wp_signal 𝒱₀ ER (sched m) (c : Thread nD τ) none (dst := (xDev c : Thread nD τ)) (κ := K (xDev c, none))
      (d := true) (by rw [duties_bar]; exact Finset.mem_univ _) ((amount_bar m (xDev c) true).trans (by decide)) () (owedY c chunks) rfl)
    $$ [HO Ht' Hx]
  · isplitr; · iapply (recs_inv m K (xDev c, none)); iexact HR
    isplitl [HO]; · iexact HO
    isplitl [Ht']; · iexact Ht'
    isplitl [Hx]
    · rw [payload_bar]; unfold barPay; rw [xDev_xDev]; iexact Hx
    iapply (recs_reached m K (xDev c, none)); iexact HR
  iintro HO
  iapply (Rounds.wp_wait_rest_token 𝒱₀ ER (sched m) (c : Thread nD τ) none (κ := K (c, none))
      (wpE_semWait_eq 𝒱₀ (c : Thread nD τ) none Set.univ) (Set.mem_univ _) () (O := owedY c chunks) (W := W) (R := 0) (m := 0) (T := ∅)
      (by rw [expect_bar]; decide)) $$ [Hc HO Hp]
  · isplitr; · iapply (recs_inv m K (c, none)); iexact HR
    isplitl [Hc]; · iexact Hc
    isplitl [HO]; · iexact HO
    isplitr
    · iapply (mayWait c (.reg barS) (owedY c chunks) 1 (by rw [lv_bar]) (above_Y c (by decide) _)); iapply (recs_levs m K); iexact HR
    iexact Hp
  iintro ⟨HO, Hp, -, Hpay⟩
  ihave Hpay := (Entails.of_eq (rest_bar m c)) $$ Hpay
  unfold barPay
  icases Hpay with ⟨Hy, Hx⟩
  imod (Rounds.cell_close ER (sched m) (Set.mem_univ (K (c, none))) (fun h => h) (R := 0 + 1) (duties_later m (barCell c))) $$ [Hp] with Hz
  · isplitr; · iapply (recs_inv m K (c, none)); iexact HR
    iexact Hp
  iapply Hk
  isplitl [Hz]; · iexact Hz
  isplitl [Hy]; · iexact Hy
  isplitl [Hx]; · iexact Hx
  iexists _; iexact HO

/-- The whole kernel. -/
theorem wp_body {Q : PUnit → sProp 𝕄} :
    iprop(recs m K ∗ barPart c ∗ poss c ∗ toks c ∗ credits c ∗ scratch c ∗ srcs m c ∗ outs₀ c ∗ gam m c ∗ owing c (owed₀ c))
      ⊢ iprop(((semVal (barCell c) 0 ∗ dones c ∗ scratch c ∗ outs m c ∗ gam m c ∗ owing c 0) -∗ Q ⟨⟩) -∗ WP c body Q) := by
  unfold body poss toks credits scratch srcs outs₀ outs dones gam
  simp only [Prog.lift, Prog.bind_op, Prog.bind_ret, wp_deviceId]
  iintro ⟨#HR, Hbar, ⟨Pa, Pb, Pys, Pyr, Pxs, Pxr, Po, Pp⟩, ⟨Ta, Tb, Tys, Tyr, Txs, Txr, To, Tp⟩, ⟨Cb, Cyr, Cxr⟩, ⟨Bp, Bm, Bys, Byr, Bxs, Bxr⟩, ⟨Sp, So⟩, ⟨Oo, Op⟩, Hg, HO⟩ Hk
  iapply (wp_hand m K c) $$ [Hbar Cb Byr Bxr HO]
  · isplitr; · iexact HR
    isplitl [Hbar]; · iexact Hbar
    isplitl [Cb]; · iexact Cb
    isplitl [Byr]; · iexact Byr
    isplitl [Bxr]; · iexact Bxr
    iexact HO
  iintro ⟨Zb, Byr, Bxr, HO⟩
  iapply (wp_pass m K c (step_st1 m K c shP)) $$ [Sp Bp Ta]
  · simp only [bigSep_sep']
    isplitr; · iexact HR
    isplitl
    · isplitl [Sp]; · iexact Sp
      isplitl [Bp] <;> iassumption
    iempintro
  iintro ⟨Ca, -⟩
  iapply (wp_pass m K c (step_st2 m K c shO)) $$ [So Bm Tb]
  · simp only [bigSep_sep']
    isplitr; · iexact HR
    isplitl
    · isplitl [So]; · iexact So
      isplitl [Bm] <;> iassumption
    iempintro
  iintro ⟨Cb, -⟩
  iapply (wp_pass m K c (step_sendY m K c)) $$ [Ca Pa Bys Byr Tys Tyr HO]
  · simp only [bigSep_sep']
    isplitr; · iexact HR
    isplitr [HO]
    · isplitl [Ca]; · iexact Ca
      isplitl [Pa]; · iexact Pa
      isplitl [Bys]; · iexact Bys
      isplitl [Byr]; · iexact Byr
      isplitl [Tys] <;> iassumption
    iexact HO
  simp only [bigSep_sep']
  iintro ⟨⟨Za, Bp, Cys⟩, HO⟩
  iapply (wp_pass m K c (step_sendX m K c)) $$ [Cb Pb Cyr Pyr Bxs Bxr Txs Txr Oo To HO Hg]
  · simp only [bigSep_sep']
    isplitr; · iexact HR
    isplitr [HO Hg]
    · isplitl [Cb]; · iexact Cb
      isplitl [Pb]; · iexact Pb
      isplitl [Cyr]; · iexact Cyr
      isplitl [Pyr]; · iexact Pyr
      isplitl [Bxs]; · iexact Bxs
      isplitl [Bxr]; · iexact Bxr
      isplitl [Txs]; · iexact Txs
      isplitl [Txr]; · iexact Txr
      isplitl [Oo] <;> iassumption
    isplitl [HO]; · iexact HO
    iexact Hg
  simp only [bigSep_sep']
  iintro ⟨⟨Zb', Zyr, Bm, Byr, Cxs, Co⟩, HO, Hg⟩
  iapply (wp_pass m K c (step_outX m K c)) $$ [Cxr Pxr Op Tp HO]
  · simp only [bigSep_sep']
    isplitr; · iexact HR
    isplitr [HO]
    · isplitl [Cxr]; · iexact Cxr
      isplitl [Pxr]; · iexact Pxr
      isplitl [Op] <;> iassumption
    iexact HO
  simp only [bigSep_sep']
  iintro ⟨⟨Zxr, Cp⟩, HO⟩
  iapply (wp_pass m K c (step_end1 m K c)) $$ [Co Po HO]
  · simp only [bigSep_sep']
    isplitr; · iexact HR
    isplitr [HO]
    · isplitl [Co] <;> iassumption
    iexact HO
  simp only [bigSep_sep']
  iintro ⟨⟨Zo, Oo, Bx⟩, HO⟩
  iapply (wp_pass m K c (step_end2 m K c)) $$ [Cp Pp HO]
  · simp only [bigSep_sep']
    isplitr; · iexact HR
    isplitr [HO]
    · isplitl [Cp] <;> iassumption
    iexact HO
  simp only [bigSep_sep']
  iintro ⟨⟨Zp, Op, Bxr⟩, HO⟩
  iapply (wp_pass m K c (step_end3 m K c)) $$ [Cys Pys Cxs Pxs Bx HO]
  · simp only [bigSep_sep']
    isplitr; · iexact HR
    isplitr [HO]
    · isplitl [Cys]; · iexact Cys
      isplitl [Pys]; · iexact Pys
      isplitl [Cxs]; · iexact Cxs
      isplitl [Pxs] <;> iassumption
    iexact HO
  simp only [bigSep_sep']
  iintro ⟨⟨Zys, Zxs, Bys, Bxs⟩, HO⟩
  unfold WP; rw [Prog.pure_eq_ret, wp_ret]; imodintro
  iapply Hk
  isplitl [Zb]; · iexact Zb
  isplitl [Za Zb' Zys Zyr Zxs Zxr Zo Zp]
  · isplitl [Za]; · iexact Za
    isplitl [Zb']; · iexact Zb'
    isplitl [Zys]; · iexact Zys
    isplitl [Zyr]; · iexact Zyr
    isplitl [Zxs]; · iexact Zxs
    isplitl [Zxr]; · iexact Zxr
    isplitl [Zo] <;> iassumption
  isplitl [Bp Bm Bys Byr Bxs Bxr]
  · isplitl [Bp]; · iexact Bp
    isplitl [Bm]; · iexact Bm
    isplitl [Bys]; · iexact Bys
    isplitl [Byr]; · iexact Byr
    isplitl [Bxs] <;> iassumption
  isplitl [Oo Op]
  · isplitl [Oo] <;> iassumption
  isplitl [Hg]; · iexact Hg
  iexact HO

end Cert.KernelIdeal.Chunked

end
-- ==== Proof.Split.lean ====
/-
# The buffers, chunk by chunk

The rows of the chunks are disjoint and together all of a quarter; the two quarters of a device's result are disjoint and
together all of it.  So each buffer is held chunk by chunk, and whole again at the end.
-/
module

public import proofs.«01_k».proof.Proof.Body
public import Idealize.ShloMosaic.Lib.Ring
public import Idealize.ShloMosaic.Lib.ViewIndex

@[expose] public section

noncomputable section

namespace Cert.KernelIdeal.Chunked

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

omit [FloatOps F] in
theorem all_mono {Φ Ψ : Fin 18 → sProp 𝕄} (h : ∀ i, Φ i ⊢ Ψ i) : all Φ ⊢ all Ψ := bigSep_mono fun i _ => h i

/-! ## Rows -/

theorem off_apart : ∀ i j : Fin 18, i ≠ j → off i + sz i ≤ off j ∨ off j + sz j ≤ off i := by decide +kernel
theorem off_end : ∀ i : Fin 18, off i + sz i ≤ 1024 := by decide
theorem off_find : ∀ r : Fin 1024, ∃ i : Fin 18, off i ≤ r.val ∧ r.val < off i + sz i := by decide +kernel

/-- Where the quarter of the result that device `c` computes starts, and where the other. -/
def qOwn (c : Dev nD) : ℕ := 1024 * (c.val / 2)
def qPeer (c : Dev nD) : ℕ := 1024 - 1024 * (c.val / 2)

theorem q_cases : ∀ c : Dev nD, (qOwn c = 0 ∧ qPeer c = 1024) ∨ (qOwn c = 1024 ∧ qPeer c = 0) := by decide
theorem off7_eq : ∀ (c : Dev nD) (i : Fin 18), k0_off7 c (offW i) = ![qOwn c + off i, 0] := by decide +kernel
theorem off10_eq : ∀ (c : Dev nD) (i : Fin 18), k0_off10 c (offW i) = ![qPeer c + off i, 0] := by decide +kernel

theorem mem_row (i : Fin 18) (x : S1024x2048.Idx) : x ∈ (row i).set ↔ off i ≤ (x 0).val ∧ (x 0).val < off i + sz i := by
  rw [Rect.mem_set_unit, Fin.forall_fin_two]
  exact ⟨fun h => h.1, fun h => ⟨h, Nat.zero_le _, by have : (x 1).val < 2048 := (x 1).isLt; show (x 1).val < 0 + 2048; omega⟩⟩
theorem mem_outRows (c : Dev nD) (i : Fin 18) (x : S2048x2048.Idx) :
    x ∈ (outRows c i).set ↔ qOwn c + off i ≤ (x 0).val ∧ (x 0).val < qOwn c + off i + sz i := by
  rw [Rect.mem_set_unit, Fin.forall_fin_two, off7_eq]
  exact ⟨fun h => h.1, fun h => ⟨h, Nat.zero_le _, by have : (x 1).val < 2048 := (x 1).isLt; show (x 1).val < 0 + 2048; omega⟩⟩
theorem mem_outPRows (c : Dev nD) (i : Fin 18) (x : S2048x2048.Idx) :
    x ∈ (outPRows c i).set ↔ qPeer c + off i ≤ (x 0).val ∧ (x 0).val < qPeer c + off i + sz i := by
  rw [Rect.mem_set_unit, Fin.forall_fin_two, off10_eq]
  exact ⟨fun h => h.1, fun h => ⟨h, Nat.zero_le _, by have : (x 1).val < 2048 := (x 1).isLt; show (x 1).val < 0 + 2048; omega⟩⟩

theorem row_disjoint (i j : Fin 18) (h : i ≠ j) : Disjoint (row i).set (row j).set :=
  Finset.disjoint_left.mpr fun x hi hj => by
    rw [mem_row] at hi hj; have := off_apart i j h; omega

/-- The pieces of a device's result: the chunks of the quarter it computes and those of the other. -/
def outSet (c : Dev nD) (bi : Bool × Fin 18) : Finset S2048x2048.Idx := if bi.1 then (outRows c bi.2).set else (outPRows c bi.2).set

/-- The first row of a piece of the result. -/
def outOff (c : Dev nD) (bi : Bool × Fin 18) : ℕ := (if bi.1 then qOwn c else qPeer c) + off bi.2

theorem mem_outSet (c : Dev nD) (bi : Bool × Fin 18) (x : S2048x2048.Idx) :
    x ∈ outSet c bi ↔ outOff c bi ≤ (x 0).val ∧ (x 0).val < outOff c bi + sz bi.2 := by
  obtain ⟨_ | _, i⟩ := bi
  · exact mem_outPRows c i x
  · exact mem_outRows c i x

theorem outOff_apart : ∀ (c : Dev nD) (a b : Bool × Fin 18), a ≠ b → outOff c a + sz a.2 ≤ outOff c b ∨ outOff c b + sz b.2 ≤ outOff c a := by
  rintro c ⟨p, i⟩ ⟨q, j⟩ h
  have hi := off_end i; have hj := off_end j; have hq := q_cases c
  by_cases hpq : p = q
  · subst hpq
    have := off_apart i j fun e => h (by rw [e])
    unfold outOff; dsimp only; omega
  · cases p <;> cases q
    · exact absurd rfl hpq
    · simp only [outOff, if_true, if_false, Bool.false_eq_true]; omega
    · simp only [outOff, if_true, if_false, Bool.false_eq_true]; omega
    · exact absurd rfl hpq

theorem outOff_find (c : Dev nD) (r : ℕ) (hr : r < 2048) : ∃ bi, outOff c bi ≤ r ∧ r < outOff c bi + sz bi.2 := by
  have hq := q_cases c
  by_cases h : r < 1024
  · obtain ⟨i, hi⟩ := off_find ⟨r, h⟩
    dsimp only at hi
    rcases hq with ⟨h1, h2⟩ | ⟨h1, h2⟩
    · exact ⟨(true, i), by simp only [outOff, if_true]; omega⟩
    · exact ⟨(false, i), by simp only [outOff, if_false, Bool.false_eq_true]; omega⟩
  · obtain ⟨i, hi⟩ := off_find ⟨r - 1024, by omega⟩
    dsimp only at hi
    rcases hq with ⟨h1, h2⟩ | ⟨h1, h2⟩
    · exact ⟨(false, i), by simp only [outOff, if_false, Bool.false_eq_true]; omega⟩
    · exact ⟨(true, i), by simp only [outOff, if_true]; omega⟩

theorem outSet_disjoint (c : Dev nD) (a b : Bool × Fin 18) (h : a ≠ b) : Disjoint (outSet c a) (outSet c b) :=
  Finset.disjoint_left.mpr fun x ha hb => by
    rw [mem_outSet] at ha hb; have := outOff_apart c a b h; omega

theorem outSet_cover (c : Dev nD) : Finset.univ.biUnion (outSet c) = Finset.univ :=
  Finset.eq_univ_of_forall fun x => by
    obtain ⟨bi, h⟩ := outOff_find c (x 0).val (x 0).isLt
    exact Finset.mem_biUnion.mpr ⟨bi, Finset.mem_univ _, (mem_outSet c bi x).mpr h⟩

/-! ## Scratch buffers -/

section Scratch
variable (c : Dev nD) {e : EltTy} (M : Memref sig .tc .vmem S1024x2048 e)

theorem ch_disjoint (i j : Fin 18) (h : i ≠ j) : Disjoint (M.view.slice (row i)).set (M.view.slice (row j)).set :=
  by rw [View.set_slice, View.set_slice]; exact (Finset.disjoint_map M.view.emb).mpr (row_disjoint i j h)

theorem ch_cover (hM : M.view.set = Finset.univ) : (Finset.univ.biUnion fun i => (ch M i).view.set : Finset M.view.ty.Idx) = Finset.univ :=
  Finset.eq_univ_of_forall fun y => by
    have hy : y ∈ M.view.set := hM ▸ Finset.mem_univ y
    obtain ⟨x, -, rfl⟩ := Finset.mem_map.mp hy
    obtain ⟨i, hi⟩ := off_find (x 0)
    refine Finset.mem_biUnion.mpr ⟨i, Finset.mem_univ _, ?_⟩
    show _ ∈ (M.view.slice (row i)).set
    rw [View.set_slice]
    exact Finset.mem_map_of_mem _ ((mem_row i x).mpr hi)

omit [FloatOps F] in
theorem split_ch (hM : M.view.set = Finset.univ) :
    iprop(∃ f, M.view.loc (c : Thread nD τ) ↦{fullShare} f) ⊢ (all (fun i => held c (ch M i)) : sProp 𝕄) := by
  iintro ⟨%f, H⟩
  ihave H := (Entails.of_eq (Ring.pointsTo_blocks (ℓ := M.view.loc (c : Thread nD τ)) (fun i : Fin 18 => (ch M i).view.set) (ch_disjoint M) (ch_cover M hM) f)) $$ H
  iapply (all_mono (Φ := fun i : Fin 18 => (M.view.loc (c : Thread nD τ) ↦[(ch M i).view.set]{fullShare} f : sProp 𝕄)) fun i => by
    unfold held; iintro H; iexists f; iexact H)
  iexact H

omit [FloatOps F] in
theorem join_ch (hM : M.view.set = Finset.univ) (f₀ : Buf (Elt F) (M.view.loc (c : Thread nD τ))) :
    (all (fun i => held c (ch M i)) : sProp 𝕄) ⊢ iprop(∃ f, M.view.loc (c : Thread nD τ) ↦{fullShare} f) :=
  Ring.pointsTo_blocks_join_exists (ℓ := M.view.loc (c : Thread nD τ)) (fun i : Fin 18 => (ch M i).view.set) (ch_disjoint M) (ch_cover M hM) f₀

end Scratch

variable (m : (ℓ : Loc nD τ sig) → Buf (Elt F) ℓ) (c : Dev nD)

omit [FloatOps F] in
theorem scratch_split : Pipeline.scopedRest cfg0.spec c ⊢ (scratch c : sProp 𝕄) := by
  rw [scopedRest0_eq]
  unfold scratch
  iintro ⟨H0, H1, H2, H3, H4, H5⟩
  isplitl [H0]; · iapply (split_ch c psM (View.set_whole _)); iexact H0
  isplitl [H1]; · iapply (split_ch c msM (View.set_whole _)); iexact H1
  isplitl [H2]; · iapply (split_ch c ysM (View.set_whole _)); iexact H2
  isplitl [H3]; · iapply (split_ch c yrM (View.set_whole _)); iexact H3
  isplitl [H4]; · iapply (split_ch c xsM (View.set_whole _)); iexact H4
  iapply (split_ch c xrM (View.set_whole _)); iexact H5

theorem scratch_join (m : (ℓ : Loc nD τ sig) → Buf (Elt F) ℓ) : (scratch c : sProp 𝕄) ⊢ Pipeline.scopedRest cfg0.spec c := by
  rw [scopedRest0_eq]
  unfold scratch
  iintro ⟨H0, H1, H2, H3, H4, H5⟩
  isplitl [H0]; · iapply (join_ch c psM (View.set_whole _) (m _)); iexact H0
  isplitl [H1]; · iapply (join_ch c msM (View.set_whole _) (m _)); iexact H1
  isplitl [H2]; · iapply (join_ch c ysM (View.set_whole _) (m _)); iexact H2
  isplitl [H3]; · iapply (join_ch c yrM (View.set_whole _) (m _)); iexact H3
  isplitl [H4]; · iapply (join_ch c xsM (View.set_whole _) (m _)); iexact H4
  iapply (join_ch c xrM (View.set_whole _) (m _)); iexact H5

/-! ## The result and the partial sums -/

omit [FloatOps F] in
theorem outs_split (f : Buf (Elt F) ((c : Thread nD τ).loc main_v1)) : (((c : Thread nD τ).loc main_v1) ↦{fullShare} f) ⊢ (outs₀ c : sProp 𝕄) := by
  rw [Ring.pointsTo_blocks (ℓ := (c : Thread nD τ).loc main_v1) (outSet c) (outSet_disjoint c) (outSet_cover c) f, bigSep_univ_prod,
    bigSep_univ_eq_bigSepL [true, false] (by decide) (by decide), bigSepL_cons_cons, bigSepL_singleton]
  unfold outs₀
  refine BIClass.sep_mono (all_mono fun i => ?_) (all_mono fun i => ?_)
  · unfold held
    iintro H; iexists f
    rw [show (oOwn c i).view.set = outSet c (true, i) from View.set_slice_whole _ _]
    iexact H
  · unfold held
    iintro H; iexists f
    rw [show (oPeer c i).view.set = outSet c (false, i) from View.set_slice_whole _ _]
    iexact H

omit [FloatOps F] in
/-- One read share for each chunk, each cut down to the rows the chunk reads. -/
theorem deal_reads {b : Ref sig .tc} (f : Buf (Elt F) ((c : Thread nD τ).loc b)) (q : PosShare TreeShare) (S : Fin 18 → Finset (Idx ((c : Thread nD τ).loc b))) :
    (((c : Thread nD τ).loc b) ↦{q} f) ⊢ (all (fun i => ((c : Thread nD τ).loc b) ↦[S i]{Transfers.shareTok q 18 i} f) : sProp 𝕄) := by
  iintro H
  ihave H := (Transfers.pointsTo_toks_split q 18) $$ H
  icases H with ⟨-, H⟩
  iapply (all_mono (Φ := fun i : Fin 18 => (((c : Thread nD τ).loc b) ↦{Transfers.shareTok q 18 i} f : sProp 𝕄)) fun i => by
    iintro H
    ihave H := (pointsTo_split_subset (Finset.subset_univ (S i))).1 $$ H
    icases H with ⟨H, -⟩
    iexact H)
  iexact H

theorem srcs_split : (((c : Thread nD τ).loc main_arg0) ↦{fullShare.right} m ((c : Thread nD τ).loc main_arg0)) ⊢ (srcs m c : sProp 𝕄) := by
  unfold srcs
  iintro H
  ihave H := (pointsTo_share (PosShare.mem_left_op_right fullShare.right)).1 $$ H
  icases H with ⟨H1, H2⟩
  isplitl [H1]
  · ihave H1 := (deal_reads c (m ((c : Thread nD τ).loc main_arg0)) fullShare.right.left fun i => (pPeer c i).view.set) $$ H1
    iapply (all_mono (Φ := fun i : Fin 18 => (((c : Thread nD τ).loc main_arg0) ↦[(pPeer c i).view.set]{shP i} m ((c : Thread nD τ).loc main_arg0) : sProp 𝕄))
      fun i => holds_of (M := pPeer c i) rfl)
    iexact H1
  · ihave H2 := (deal_reads c (m ((c : Thread nD τ).loc main_arg0)) fullShare.right.right fun i => (pOwn c i).view.set) $$ H2
    iapply (all_mono (Φ := fun i : Fin 18 => (((c : Thread nD τ).loc main_arg0) ↦[(pOwn c i).view.set]{shO i} m ((c : Thread nD τ).loc main_arg0) : sProp 𝕄))
      fun i => holds_of (M := pOwn c i) rfl)
    iexact H2

end Cert.KernelIdeal.Chunked

end
-- ==== Proof.Deal.lean ====
/-
# What the launch deals

From the semaphores at zero: an invariant for every cell, each device's positions, and the duties, each given to the device
that performs it.  From what every device owes: the credit for what its neighbours owe it.
-/
module

public import proofs.«01_k».proof.Proof.Body

@[expose] public section

noncomputable section

namespace Cert.KernelIdeal.Chunked

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

variable {F : FTy → Type} [FloatOps F]

local notation "𝕄" => MT nD τ sig Unit (Elt F) ℕ UU ℕ

variable (m : (ℓ : Loc nD τ sig) → Buf (Elt F) ℓ)

/-! ## Families -/

omit [FloatOps F] in
/-- Something for every transfer, family by family. -/
theorem keys_split (Φ : Key → sProp 𝕄) : bigSep Finset.univ Φ
    = iprop(all (fun i => Φ (.st1, i)) ∗ all (fun i => Φ (.st2, i)) ∗ all (fun i => Φ (.ys, i)) ∗ all (fun i => Φ (.yr, i))
      ∗ all (fun i => Φ (.xs, i)) ∗ all (fun i => Φ (.xr, i)) ∗ all (fun i => Φ (.o1, i)) ∗ all (fun i => Φ (.o2, i))) := by
  rw [bigSep_univ_prod]
  exact bigSep_univ_eq_bigSepL [Fam.st1, .st2, .ys, .yr, .xs, .xr, .o1, .o2] (by decide) (by decide) _

omit [FloatOps F] in
/-- Something for every cell of a device: for the barrier's, and for every transfer's. -/
theorem cells_split (Φ : Option Key → sProp 𝕄) : bigSep Finset.univ Φ = iprop(Φ none ∗ bigSep Finset.univ fun k => Φ (some k)) := by
  rw [bigSep_univ_at Φ none, show (Finset.univ.erase none : Finset (Option Key)) = Finset.univ.map Function.Embedding.some from by
    ext k; cases k <;> simp, bigSep_map]
  rfl

/-! ## Cells and duties -/

def theCells : Finset (GSem nD τ sig) := Finset.univ.map ⟨kcell, kcell_injective⟩

/-- A device's own duties, as minted: the barrier's two, and each transfer's. -/
def tokOf : Dev nD × (Bool ⊕ Key) → GSem nD τ sig × ℕ × Bool
  | (c, .inl b) => (barCell c, 0, b)
  | (c, .inr k) => (cell c k, 0, false)

theorem tokOf_injective : Function.Injective tokOf := by
  have cells {a b : Dev nD × Option Key} (h : kcell a = kcell b) : a = b := kcell_injective h
  rintro ⟨c, b | k⟩ ⟨c', b' | k'⟩ h
  · have h1 := cells (a := (c, none)) (b := (c', none)) (congrArg Prod.fst h)
    have h2 : b = b' := congrArg (fun x : GSem nD τ sig × ℕ × Bool => x.2.2) h
    rw [show c = c' from congrArg Prod.fst h1, h2]
  · exact absurd (congrArg Prod.snd (cells (a := (c, none)) (b := (c', some k')) (congrArg Prod.fst h))) (by simp)
  · exact absurd (congrArg Prod.snd (cells (a := (c, some k)) (b := (c', none)) (congrArg Prod.fst h))) (by simp)
  · have h1 := cells (a := (c, some k)) (b := (c', some k')) (congrArg Prod.fst h)
    rw [show c = c' from congrArg Prod.fst h1, show k = k' from Option.some.inj (congrArg Prod.snd h1)]

def theToks : Finset (GSem nD τ sig × ℕ × Bool) := Finset.univ.map ⟨tokOf, tokOf_injective⟩

def u₀ : UU := (initOf (Pipeline.cells cfgs cellOf_inj) (Pipeline.launchToks cfgs cellOf_inj), initOf theCells theToks)

section Device
variable (c : Dev nD)

/-- The duties of device `c`'s own cells. -/
def ownToks : sProp 𝕄 :=
  iprop((dutyTok ER (barCell c) 0 false ∗ dutyTok ER (barCell c) 0 true) ∗ bigSep Finset.univ fun k : Key => tok c k)

/-- What device `c` is dealt before the cells are opened. -/
def G : sProp 𝕄 :=
  iprop((bigSep Finset.univ fun k : Option Key => roundState ER (sched m) (kcell (c, k)) 0)
    ∗ (bigSep Finset.univ fun k : Option Key => iprop(atPos ER (kcell (c, k)) 0 ∅ 0 ∗ reached ER (kcell (c, k)) 0)) ∗ ownToks c)

/-- The records without the levels. -/
def recs₀ (K : Dev nD × Option Key → ℕ) : sProp 𝕄 :=
  iprop((bigSep Finset.univ fun ck : Dev nD × Option Key => cellInv ER (sched m) (K ck) (kcell ck))
    ∗ bigSep Finset.univ fun ck : Dev nD × Option Key => reached ER (kcell ck) 0)

instance recs₀_persistent (K : Dev nD × Option Key → ℕ) : BI.Persistent (recs₀ m K) := by unfold recs₀; infer_instance

/-- The duties device `c` performs, the barrier's among them. -/
def payToks : sProp 𝕄 := iprop((dutyTok ER (barCell (yDev c)) 0 false ∗ dutyTok ER (barCell (xDev c)) 0 true) ∗ toks c)

/-- What device `c` has once the cells are open. -/
def G' : sProp 𝕄 := iprop(∃ K, recs₀ m K ∗ (bigSep Finset.univ fun k : Option Key => atPos ER (kcell (c, k)) 0 ∅ 0) ∗ payToks c)

end Device

theorem fund_cells : BI.own (ER (initOf theCells theToks)) ⊢ (|==> bigSep Finset.univ (G m) : sProp 𝕄) := by
  have hX (Φ : GSem nD τ sig → sProp 𝕄) : bigSep theCells Φ = bigSep Finset.univ fun c : Dev nD => bigSep Finset.univ fun k : Option Key => Φ (kcell (c, k)) := by
    unfold theCells; rw [bigSep_map, bigSep_univ_prod]; rfl
  have hT : bigSep theToks (fun x => (dutyTok ER x.1 x.2.1 x.2.2 : sProp 𝕄)) = bigSep Finset.univ fun c : Dev nD => ownToks c := by
    unfold theToks; rw [bigSep_map, bigSep_univ_prod]
    refine bigSep_congr fun c _ => ?_
    unfold ownToks
    rw [bigSep_univ_sum, bigSep_univ_eq_bigSepL [false, true] (by decide) (by decide), bigSepL_cons_cons, bigSepL_singleton]
    rfl
  iintro HX
  imod (Rounds.fund ER (sched m) theCells theToks) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The semaphores -/

theorem ownSemFacts : Pipeline.OwnSemFacts cfg0.spec keySem :=
  ⟨by decide +kernel, keySem_injective, by decide +kernel⟩

omit [FloatOps F] in
theorem ownSems0_eq (c : Dev nD) : (Pipeline.ownSems0 (Ix := Unit) (Name := ℕ) (U := UU) (Lvl := ℕ) (Val := Elt F) (τ := τ) keySem c : sProp 𝕄) = dones c :=
  keys_split fun k => semVal (cell c k) 0

omit [FloatOps F] in
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem core_alloc (c : Dev nD) :
    iprop(Pipeline.ownSems0 (Ix := Unit) (Name := ℕ) (U := UU) (Lvl := ℕ) (Val := Elt F) (τ := τ) keySem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ ownToks c) := by
  unfold G
  iintro ⟨Hos, Hus, Hst, Hat, Htok⟩
  ihave Hv := (show iprop(Pipeline.ownSems0 keySem c ∗ unscopedSems0 c) ⊢ (bigSep Finset.univ fun k : Option Key => semVal (kcell (c, k)) 0 : sProp 𝕄) from by
    rw [unscopedSems0_eq, cells_split]
    iintro ⟨H1, H2⟩
    isplitl [H2]; · iexact H2
    unfold Pipeline.ownSems0; iexact H1) $$ [Hos Hus]
  · isplitl [Hos] <;> iassumption
  imod (show iprop((bigSep Finset.univ fun k : Option Key => semVal (kcell (c, k)) 0) ∗ bigSep Finset.univ fun k : Option Key => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- Every duty goes to the device that performs it. -/
theorem toks_around : (bigSep Finset.univ fun c : Dev nD => (ownToks c : sProp 𝕄)) ⊢ bigSep Finset.univ fun c : Dev nD => payToks c := by
  unfold ownToks payToks toks
  simp only [keys_split]
  simp only [bigSep_sep']
  rw [bigSep_univ_equiv yEquiv (fun c : Dev nD => (dutyTok ER (barCell c) 0 false : sProp 𝕄)),
    bigSep_univ_equiv xEquiv (fun c : Dev nD => (dutyTok ER (barCell c) 0 true : sProp 𝕄)),
    bigSep_univ_equiv yEquiv (fun c : Dev nD => (all (fun i => tok c (.yr, i)) : sProp 𝕄)),
    bigSep_univ_equiv xEquiv (fun c : Dev nD => (all (fun i => tok c (.xr, i)) : sProp 𝕄))]
  exact BI.Entails.refl _

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ ownToks c) : sProp 𝕄)
      ⊢ bigSep Finset.univ (G' m) := by
  rw [bigSep_sep', bigSep_sep', ← bigSep_univ_prod (fun ck : Dev nD × Option Key => iprop(∃ κ : ℕ, cellInv ER (sched m) κ (kcell ck))),
    bigSep_congr (s := Finset.univ) (fun (c : Dev nD) _ => bigSep_sep' Finset.univ (fun k : Option Key => (atPos ER (kcell (c, k)) 0 ∅ 0 : sProp 𝕄)) (fun k => reached ER (kcell (c, k)) 0)),
    bigSep_sep', ← bigSep_univ_prod (fun ck : Dev nD × Option Key => (reached ER (kcell ck) 0 : sProp 𝕄))]
  iintro ⟨HI, ⟨Hat, #HR⟩, Htok⟩
  ihave HK := (BI.bigSep_exists_pi Finset.univ (fun (ck : Dev nD × Option Key) (κ : ℕ) => (cellInv ER (sched m) κ (kcell ck) : sProp 𝕄))) $$ HI
  icases HK with ⟨%K, #HI⟩
  ihave Htk := (toks_around (F := F)) $$ Htok
  iapply (with_persistent (R := recs₀ m K) (Φ := fun c : Dev nD => iprop((bigSep Finset.univ fun k : Option Key => atPos ER (kcell (c, k)) 0 ∅ 0) ∗ payToks c))
    fun c _ => by unfold G'; iintro H; iexists K; iexact H)
  isplitr
  · unfold recs₀; isplitl; · iexact HI
    iexact HR
  · rw [bigSep_sep']
    isplitl [Hat]; · iexact Hat
    iexact Htk

/-- All the cells opened at once. -/
theorem glob : (bigSep Finset.univ fun c => iprop(Pipeline.ownSems0 (Ix := Unit) (Name := ℕ) (U := UU) (Lvl := ℕ) (Val := Elt F) (τ := τ) keySem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- What device `c` enters the kernel with. -/
theorem dealt (c : Dev nD) : iprop(G' m c ∗ levAts Lx lv) ⊢ iprop(∃ K, recs m K ∗ barPart c ∗ poss c ∗ toks c) := by
  unfold G' payToks barPart poss recs recs₀
  rw [cells_split, keys_split]
  iintro ⟨⟨%K, HR, ⟨Hb, Hp⟩, ⟨Ht, Ht'⟩, Htk⟩, Hl⟩
  iexists K
  isplitl [HR Hl]
  · isplitl [HR]; · iexact HR
    iexact Hl
  isplitl [Hb Ht Ht']
  · isplitl [Hb]; · iexact Hb
    isplitl [Ht] <;> iassumption
  isplitl [Hp]; · iexact Hp
  iexact Htk

/-! ## The credit -/

section Credit

omit F [FloatOps F]
theorem cell_eq (a b : Dev nD) (k k' : Key) : cell a k = cell b k' ↔ a = b ∧ k = k' :=
  ⟨fun h => by
    have := kcell_injective (a₁ := (a, some k)) (a₂ := (b, some k')) h
    exact ⟨congrArg Prod.fst this, Option.some.inj (congrArg Prod.snd this)⟩, fun ⟨h, h'⟩ => by rw [h, h']⟩
theorem bar_eq (a b : Dev nD) : barCell a = barCell b ↔ a = b :=
  ⟨fun h => congrArg Prod.fst (kcell_injective (a₁ := (a, none)) (a₂ := (b, none)) h), fun h => by rw [h]⟩
theorem bar_ne (a b : Dev nD) (k : Key) : barCell a ≠ cell b k := fun h => keySem_ne_bar k (congrArg Prod.snd h).symm

theorem tally_cell (a b : Dev nD) (k k' : Key) (n : ℕ) :
    (tallyAt (cell b k') () n : CellTallies nD τ sig Unit) (cell a k) () = if a = b ∧ k = k' then n else 0 := by
  rw [tallyAt_apply]; exact if_congr ((and_iff_left rfl).trans (cell_eq a b k k')) rfl rfl
theorem tally_cell_bar (a b : Dev nD) (k : Key) (n : ℕ) : (tallyAt (barCell b) () n : CellTallies nD τ sig Unit) (cell a k) () = 0 := by
  rw [tallyAt_apply, if_neg (fun e => bar_ne _ _ _ e.1.symm)]
theorem tally_bar (a b : Dev nD) (n : ℕ) : (tallyAt (barCell b) () n : CellTallies nD τ sig Unit) (barCell a) () = if a = b then n else 0 := by
  rw [tallyAt_apply]; exact if_congr ((and_iff_left rfl).trans (bar_eq a b)) rfl rfl

theorem chunks_count (i : Fin 18) : chunks.count i = 1 := by revert i; decide

theorem owedX_cell (d c : Dev nD) (k : Key) : ∀ l, owedX d l (cell c k) () = if c = xDev d ∧ k.1 = .xr then l.count k.2 * amt k else 0
  | [] => by simp [owedX]
  | i :: l => by
    obtain ⟨f, j⟩ := k
    have ih := owedX_cell d c (f, j) l
    rw [owedX, Pi.add_apply, Finsupp.add_apply, ih, tally_cell, List.count_cons]
    simp only [Prod.mk.injEq]
    by_cases h : c = xDev d ∧ f = .xr
    · obtain ⟨h1, rfl⟩ := h
      by_cases hi : i = j
      · subst hi; simp [h1, Nat.add_mul]
      · have hi' : ¬ j = i := fun e => hi e.symm
        simp [h1, hi, hi']
    · rw [if_neg h, if_neg h, if_neg (fun e => h ⟨e.1, e.2.1⟩)]
theorem owedX_bar (d c : Dev nD) : ∀ l, owedX d l (barCell c) () = 0
  | [] => rfl
  | i :: l => by rw [owedX, Pi.add_apply, Finsupp.add_apply, owedX_bar d c l, tallyAt_apply, if_neg (fun e => bar_ne _ _ _ e.1)]

theorem owedY_cell (d c : Dev nD) (k : Key) : ∀ l, owedY d l (cell c k) ()
    = (if c = xDev d ∧ k.1 = .xr then amt k else 0) + if c = yDev d ∧ k.1 = .yr then l.count k.2 * amt k else 0
  | [] => by rw [owedY, owedX_cell, chunks_count]; simp
  | i :: l => by
    obtain ⟨f, j⟩ := k
    have ih := owedY_cell d c (f, j) l
    rw [owedY, Pi.add_apply, Finsupp.add_apply, ih, tally_cell, List.count_cons, Nat.add_assoc]
    congr 1
    simp only [Prod.mk.injEq]
    by_cases h : c = yDev d ∧ f = .yr
    · obtain ⟨h1, rfl⟩ := h
      by_cases hi : i = j
      · subst hi; simp [h1, Nat.add_mul]
      · have hi' : ¬ j = i := fun e => hi e.symm
        simp [h1, hi, hi']
    · rw [if_neg h, if_neg h, if_neg (fun e => h ⟨e.1, e.2.1⟩)]
theorem owedY_bar (d c : Dev nD) : ∀ l, owedY d l (barCell c) () = 0
  | [] => owedX_bar d c _
  | i :: l => by rw [owedY, Pi.add_apply, Finsupp.add_apply, owedY_bar d c l, tallyAt_apply, if_neg (fun e => bar_ne _ _ _ e.1)]

theorem owed_cell (d c : Dev nD) (k : Key) : owed₀ d (cell c k) ()
    = (if c = xDev d ∧ k.1 = .xr then amt k else 0) + if c = yDev d ∧ k.1 = .yr then amt k else 0 := by
  rw [owed₀, owedB, Pi.add_apply, Finsupp.add_apply, Pi.add_apply, Finsupp.add_apply, owedY_cell, chunks_count, tally_cell_bar, tally_cell_bar,
    Nat.add_zero, Nat.one_mul]
theorem owed_bar (d c : Dev nD) : owed₀ d (barCell c) () = (if c = xDev d then 1 else 0) + if c = yDev d then 1 else 0 := by
  rw [owed₀, owedB, Pi.add_apply, Finsupp.add_apply, Pi.add_apply, Finsupp.add_apply, owedY_bar, tally_bar, tally_bar, Nat.zero_add]

theorem eq_xDev (c d : Dev nD) : c = xDev d ↔ d = xDev c := ⟨fun h => by rw [h, xDev_xDev], fun h => by rw [h, xDev_xDev]⟩
theorem eq_yDev (c d : Dev nD) : c = yDev d ↔ d = yDev c := ⟨fun h => by rw [h, yDev_yDev], fun h => by rw [h, yDev_yDev]⟩

theorem launch_bar (c : Dev nD) :
    tallyOn (barCell c) (launchCredit (Pipeline.owing owed₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib]
  simp only [eq_xDev, eq_yDev, Finset.sum_ite_eq', Finset.mem_univ, if_true]

theorem launch_cell (c : Dev nD) (k : Key) (hk : k.1 = .yr ∨ k.1 = .xr) :
    tallyOn (cell c k) (launchCredit (Pipeline.owing owed₀) 0 (cell c k)) = (tallyAt (cell c k) () (amt k) : CellTallies nD τ sig Unit) := by
  unfold tallyAt; refine congrArg _ (Finsupp.ext fun u => ?_); cases u
  rw [Pipeline.launchCredit_owing, Finsupp.single_eq_same, Finset.sum_congr rfl fun d _ => owed_cell d c k, Finset.sum_add_distrib]
  obtain ⟨f, i⟩ := k
  rcases hk with rfl | rfl
  · simp [eq_yDev]
  · simp [eq_xDev]

end Credit

omit [FloatOps F] in
theorem creds (c : Dev nD) : (Pipeline.launchCred owed₀ c : sProp 𝕄) ⊢ credits c := by
  have h : (Pipeline.launchCred owed₀ c : sProp 𝕄) ⊢ bigSep Finset.univ fun k : Option Key =>
      cred (tallyOn (kcell (c, k)) (launchCredit (Pipeline.owing owed₀) 0 (kcell (c, k)))) := by
    unfold Pipeline.launchCred
    exact (bigSep_subset (Finset.subset_univ (Finset.univ.map ⟨csem, csem_injective⟩))).trans (Entails.of_eq (bigSep_map (s := Finset.univ) ⟨csem, csem_injective⟩))
  have hf (f : Fam) (hk : f = .yr ∨ f = .xr) :
      (all (fun i => cred (tallyOn (kcell (c, some (f, i))) (launchCredit (Pipeline.owing owed₀) 0 (kcell (c, some (f, i)))))) : sProp 𝕄) = all fun i => credit c (f, i) :=
    bigSep_congr fun i _ => congrArg cred (launch_cell c (f, i) hk)
  refine h.trans ?_
  rw [cells_split, keys_split]
  unfold credits
  iintro ⟨Hb, -, -, -, Hy, -, Hx, -, -⟩
  isplitl [Hb]; · rw [← launch_bar]; iexact Hb
  isplitl [Hy]
  · iapply (Entails.of_eq (hf .yr (.inl rfl))); iexact Hy
  · iapply (Entails.of_eq (hf .xr (.inr rfl))); iexact Hx

end Cert.KernelIdeal.Chunked

end
-- ==== Proof.Run.lean ====
/-
# The run

The kernel on every device at once, from any memory with every counter at zero, for any float values: it terminates, the
arguments are unchanged, every counter is at zero, and each chunk of each device's result holds what its device computed.
-/
module

public import proofs.«01_k».proof.Proof.Split
public import proofs.«01_k».proof.Proof.Deal
public import Idealize.ShloMosaic.Lib.Pipeline.CollectiveSegs

@[expose] public section

noncomputable section

namespace Cert.KernelIdeal.Chunked

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev s₀ : MemSt nD τ sig (Elt F) := ⟨m, fun _ => 0, ρ⟩

/-! ## What the kernel is launched with -/

section Data
variable (c : Dev nD)

/-- What a device enters the kernel with besides its scratch buffers. -/
def start : sProp 𝕄 := iprop((∃ K, recs m K ∗ barPart c ∗ poss c ∗ toks c) ∗ credits c ∗ srcs m c ∗ outs₀ c)

def Φ₀ : sProp 𝕄 := iprop(start m c ∗ scratch c)
def Φ₁ : sProp 𝕄 := iprop(semVal (barCell c) 0 ∗ dones c ∗ scratch c ∗ outs m c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => gst m c
  Φ t := match t with
    | ⟨0, _⟩ => Φ₀ m c
    | ⟨_ + 1, _⟩ => Φ₁ m c
  q _ := fullShare
  owed t := match t with
    | ⟨0, _⟩ => owed₀ c
    | ⟨_ + 1, _⟩ => 0

end Data

/-! ## The body -/

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem enter_kernel (c : Dev nD) :
    iprop(Φ₀ m c ∗ (dats m ρ 0 c).owesAt () t0_0.castSucc ∗ (∃ d, holds c gM fullShare ((dats m ρ 0 c).before (0 : Fin 1) t0_0 d)))
      ⊢ WP c body fun _ => iprop(Φ₁ m c ∗ (dats m ρ 0 c).owesAt () t0_0.succ ∗ holds c gM fullShare (gst m c)) := by
  simp only [owns_whole_eq]
  unfold Φ₀ start Dat.owesAt Pipeline.owesWithin
  rw [show (dats m ρ 0 c).owed t0_0.castSucc = owed₀ c from rfl, show (dats m ρ 0 c).owed t0_0.succ = 0 from rfl]
  iintro ⟨⟨⟨⟨%K, HR, Hb, Hp, Ht⟩, Hc, Hs, Ho⟩, Hscr⟩, ⟨%W, -, HO⟩, ⟨%d, %g, %hg, Hg⟩⟩
  have hx : g = gst m c := by rw [hg]; unfold Dat.before; rw [if_pos (fetch0_0 t0_0)]; rfl
  subst hx
  iapply (wp_body m K c) $$ [HR Hb Hp Ht Hc Hs Ho Hscr HO Hg]
  · isplitl [HR]; · iexact HR
    isplitl [Hb]; · iexact Hb
    isplitl [Hp]; · iexact Hp
    isplitl [Ht]; · iexact Ht
    isplitl [Hc]; · iexact Hc
    isplitl [Hscr]; · iexact Hscr
    isplitl [Hs]; · iexact Hs
    isplitl [Ho]; · iexact Ho
    isplitl [Hg]; · unfold gam; iexact Hg
    unfold owing; iexists W; iexact HO
  unfold Φ₁ owing gam
  iintro ⟨Hz, Hd, Hscr, Ho, Hg, ⟨%W', HO⟩⟩
  isplitl [Hz Hd Hscr Ho]
  · isplitl [Hz]; · iexact Hz
    isplitl [Hd]; · iexact Hd
    isplitl [Hscr] <;> iassumption
  isplitl [HO]
  · iexists W'
    isplitr; · ipureintro; exact fun _ _ => Or.inl trivial
    iexact HO
  iexists _; isplitr; · (ipureintro; rfl)
  iexact Hg

set_option maxRecDepth 100000 in
/-- The kernel as the launch calls it. -/
theorem body_obligation (c : Dev nD) : BodyObligation (dats (F := F) m ρ 0 c) (defs₀ (F := F)) 𝒱₀ () Set.univ := fun t => by
  rw [fin_N0 t, bigSep_W0, bigSep_W0]
  show iprop(Φ₀ m c ∗ (dats m ρ 0 c).owesAt () t0_0.castSucc ∗ (∃ d, holds c gM fullShare ((dats m ρ 0 c).before (0 : Fin 1) t0_0 d)))
    ⊢ WP c (cc0_body (F := F) pM (Memref.isWhole_whole _) gM (Memref.isWhole_whole _) oM (Memref.isWhole_whole _) psM (Memref.isWhole_whole _)
        msM (Memref.isWhole_whole _) ysM (Memref.isWhole_whole _) yrM (Memref.isWhole_whole _) xsM (Memref.isWhole_whole _) xrM (Memref.isWhole_whole _)
        cc0_scratch6 cc0_scratch7 cc0_scratch8 cc0_scratch9 cc0_scratch10 cc0_scratch11 cc0_scratch12 cc0_scratch13)
      fun _ => iprop(Φ₁ m c ∗ (dats m ρ 0 c).owesAt () t0_0.succ ∗ holds c gM fullShare (gst m c))
  rw [body_eq]
  exact enter_kernel m ρ c

/-! ## In and out -/

theorem share_eq (c : Dev nD) (w : Fin cfg0.W) : (dats m ρ 0 c).share w = fullShare := by unfold Dat.share; split <;> rfl

theorem waits (c : Dev nD) : (levAts Lx lv : sProp 𝕄) ⊢ Pipeline.cellsWaits cfgs (dats m ρ) () 0 c :=
  Pipeline.cellsWaits_intro cfgs (dats m ρ) () 0 c fun w s t =>
    mayWait c _ _ 0 (by fin_cases w; fin_cases s; revert c; decide) (by
      rcases t with ⟨_ | _, ht⟩
      · exact above_launch c
      · exact above_zero 0)

/-- Half of a device's partial sums, kept through the run. -/
def keptHalf (c : Dev nD) : sProp 𝕄 := ((c : Thread nD τ).loc main_arg0) ↦{fullShare.left} m ((c : Thread nD τ).loc main_arg0)

theorem start_intro (c : Dev nD) :
    iprop(Pipeline.unscopedRestP Pipeline.Prefetch.none cfg0.spec c (fun b => m ((c : Thread nD τ).loc b)) ∗ levAts Lx lv
        ∗ Pipeline.launchCred owed₀ c ∗ prngReg c (ρ c) ∗ G' m c)
      ⊢ |={Set.univ}=> iprop(start m c ∗ keptHalf m c) := by
  rw [Pipeline.unscopedRestP_none, unscopedRest0_eq]
  unfold start keptHalf
  iintro ⟨⟨Ha, Ho⟩, Hlev, Hcr, -, HG⟩
  ihave Hd := (dealt m c) $$ [HG Hlev]
  · isplitl [HG] <;> iassumption
  ihave Hc := (creds c) $$ Hcr
  ihave Ho := (outs_split c _) $$ Ho
  ihave Ha := (pointsTo_share (PosShare.mem_left_op_right fullShare)).1 $$ Ha
  icases Ha with ⟨Ha, Hs⟩
  ihave Hs := (srcs_split m c) $$ Hs
  imodintro
  isplitr [Ha]
  · isplitl [Hd]; · iexact Hd
    isplitl [Hc]; · iexact Hc
    isplitl [Hs] <;> iassumption
  iexact Ha

theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (scratch_split c); iexact Hr

theorem leave (c : Dev nD) :
    (dats m ρ 0 c).Φ (Fin.last cfg0.N) ⊢ iprop((unscopedSems0 c ∗ outs m c) ∗ Pipeline.ownSems0 keySem c ∗ Pipeline.scopedRest cfg0.spec c) := by
  rw [show (dats m ρ 0 c).Φ (Fin.last cfg0.N) = Φ₁ m c from rfl, ownSems0_eq, unscopedSems0_eq]
  unfold Φ₁
  iintro ⟨Hz, Hd, Hscr, Ho⟩
  isplitl [Hz Ho]
  · isplitl [Hz] <;> iassumption
  isplitl [Hd]; · iexact Hd
  iapply (scratch_join c m); iexact Hscr

/-! ## Reading the end -/

omit [FloatOps F] in
theorem keep {P : sProp 𝕄} {φ : Prop} (h : P ⊢ ⌜φ⌝) : P ⊢ iprop(⌜φ⌝ ∗ P) :=
  Laws.pure_elim φ h fun hφ => by
    iintro H; isplitr
    · ipureintro; exact hφ
    · iexact H

variable (s' : Phys nD τ sig (Elt F))

omit [FloatOps F] in
theorem read_holds (c : Dev nD) {sp : Space} {s : Shape} {e : EltTy} (M : Memref sig .tc sp s e) (q : PosShare TreeShare) (X : s.Idx → Elt F e) :
    iprop(holds c M q X ∗ SI s') ⊢ (⌜M.view.read (Elt F) (s'.mem.mem (M.view.loc (c : Thread nD τ))) = X⌝ : sProp 𝕄) := by
  unfold holds owns
  iintro ⟨⟨%f, %hf, H⟩, HSI⟩
  icombine HSI H gives %h
  ipureintro
  rw [← hf]; exact View.read_congr h

omit [FloatOps F] in
theorem read_all (c : Dev nD) {sp : Space} {s : Fin 18 → Shape} {e : EltTy} (M : (i : Fin 18) → Memref sig .tc sp (s i) e) (q : PosShare TreeShare)
    (X : (i : Fin 18) → (s i).Idx → Elt F e) :
    iprop(all (fun i => holds c (M i) q (X i)) ∗ SI s') ⊢ (⌜∀ i, (M i).view.read (Elt F) (s'.mem.mem ((M i).view.loc (c : Thread nD τ))) = X i⌝ : sProp 𝕄) :=
  (forall_intro fun i => by
    have h : all (fun i => holds c (M i) q (X i)) ⊢ (holds c (M i) q (X i) : sProp 𝕄) := bigSep_elim (Finset.mem_univ i)
    iintro ⟨H, HSI⟩
    iapply (read_holds s' c (M i) q (X i))
    isplitl [H]
    · iapply h; iexact H
    · iexact HSI).trans pure_forall.2

/-- What a device's memory and counters are at the end, besides gamma. -/
def QY (c : Dev nD) (s : MemSt nD τ sig (Elt F)) : Prop :=
  (∀ sm : SemLoc sig, sm.isScoped .tc = false → s.sem ((c.tc : Thread nD τ), sm) = 0)
  ∧ s.mem ((c : Thread nD τ).loc main_arg0) = m ((c : Thread nD τ).loc main_arg0)
  ∧ (∀ i, (oOwn c i).view.read (Elt F) (s.mem ((c : Thread nD τ).loc main_v1)) = xv m c i)
  ∧ ∀ i, (oPeer c i).view.read (Elt F) (s.mem ((c : Thread nD τ).loc main_v1)) = xv m (xDev c) i

theorem read_end (c : Dev nD) :
    iprop((unscopedSems0 c ∗ outs m c) ∗ keptHalf m c ∗ SI s') ⊢ |={Set.univ}=> (iprop(⌜QY m c s'.mem⌝ ∗ SI s') : sProp 𝕄) := by
  unfold outs keptHalf
  iintro ⟨⟨Hu, Ho, Hp⟩, Ha, HSI⟩
  ihave H := (keep (read_all s' c (oOwn c) fullShare (xv m c))) $$ [Ho HSI]
  · isplitl [Ho] <;> iassumption
  icases H with ⟨%h1, -, HSI⟩
  ihave H := (keep (read_all s' c (oPeer c) fullShare (xv m (xDev c)))) $$ [Hp HSI]
  · isplitl [Hp] <;> iassumption
  icases H with ⟨%h2, -, HSI⟩
  icombine HSI Ha gives %h3
  imod (Pipeline.unscopedSems0_read (X := unscopedSems0 c) (c := c) fupd_intro s') $$ [Hu HSI] with ⟨%h4, HSI⟩
  · isplitl [Hu] <;> iassumption
  imodintro
  isplitr
  · ipureintro
    exact ⟨h4, funext fun i => h3 i (Finset.mem_univ i), h1, h2⟩
  · iexact HSI

/-! ## The run -/

/-- What the memory is at the end. -/
def QC (r : PUnit × MemSt nD τ sig (Elt F)) : Prop := ∀ c : Dev nD,
  r.2.mem ((c : Thread nD τ).loc main_arg0) = m ((c : Thread nD τ).loc main_arg0)
  ∧ r.2.mem ((c : Thread nD τ).loc main_arg1) = m ((c : Thread nD τ).loc main_arg1)
  ∧ (∀ i, (oOwn c i).view.read (Elt F) (r.2.mem ((c : Thread nD τ).loc main_v1)) = xv m c i)
  ∧ ∀ i, (oPeer c i).view.read (Elt F) (r.2.mem ((c : Thread nD τ).loc main_v1)) = xv m (xDev c) i

set_option maxRecDepth 100000 in
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w; exact Nat.succ_pos _) (harr := arr_whole0) (hstage := stage_whole0) (hshare := share_eq m ρ)
    (hdistinct := winFacts0.arr_inj)
    (O₀ := owed₀) (howed₀ := fun _ => rfl) (howedN := fun _ => rfl)
    (L := Lx) (lv := lv) (hL := Lx_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => iprop(unscopedSems0 c ∗ outs m c)) (Z := keptHalf m)
    (hX := start_intro m ρ) (hin := enter m ρ) (hout := leave m ρ)
    (QY := QY m)
    (hY := fun c s' => read_end m s' c)
    (hQ := fun _ h hs => ⟨fun c =>
      ⟨(h c).2.2.2.1, ((h c).1 (0 : Fin 1)).trans ((dats (F := F) m ρ 0 c).arrAt_in (0 : Fin 1) rfl _), (h c).2.2.2.2.1, (h c).2.2.2.2.2⟩,
      sem_eq_zero hs fun c => (h c).2.2.1⟩)

end Cert.KernelIdeal.Chunked

end
-- ==== Proof.Same.lean ====
/-
# The two prints of the kernel

The kernel and its idealization are printed with the same text: their body tables are equal.
-/
module

public import proofs.«01_k».proof.Defs
public import proofs.«01_k».proof.Proof.Gen.Kernel
public import proofs.«01_k».proof.Proof.BodyEq

@[expose] public section

noncomputable section

namespace Cert.KernelIdeal.Chunked

open Cert.KernelIdeal Cert.KernelIdeal.Gen
open Idealize.ShloMosaic Idealize.ShloMosaic.TcCoe
open Idealize.SL Idealize.SL.Sem

variable {F : FTy → Type} [FloatOps F]

theorem kernel_body_eq : Cert.Kernel.cc0_body (F := F) pM (Memref.isWhole_whole _) gM (Memref.isWhole_whole _) oM (Memref.isWhole_whole _) psM (Memref.isWhole_whole _)
    msM (Memref.isWhole_whole _) ysM (Memref.isWhole_whole _) yrM (Memref.isWhole_whole _) xsM (Memref.isWhole_whole _) xrM (Memref.isWhole_whole _)
    cc0_scratch6 cc0_scratch7 cc0_scratch8 cc0_scratch9 cc0_scratch10 cc0_scratch11 cc0_scratch12 cc0_scratch13 = body (F := F) := by
  chain_rfl

set_option maxRecDepth 100000 in
theorem defs₀_eq : Cert.Kernel.defs₀ (F := F) = Cert.KernelIdeal.defs₀ (F := F) := by
  refine congrArg Defs.onTc ?_
  funext ℓ x
  match ℓ, x with
  | 0, (t, s) => exact kernel_body_eq.trans body_eq.symm

theorem defs_eq : Cert.Kernel.defs (F := F) = Cert.KernelIdeal.defs (F := F) := congrArg (Pipeline.defs _) defs₀_eq

end Cert.KernelIdeal.Chunked

end
-- ==== Proof.Norm.lean ====
/-
# One row, normalised

The mathematics of one row over the extended reals. A row of sums `f` is divided by the root of its mean square plus a
small positive constant and scaled by gamma, `normRow`. Multiplying by the reciprocal root instead gives the same
(`mul_rsqrt`): the mean square plus the constant is positive, possibly infinite, and at infinity both are zero.
-/
module

public import Idealize.ShloMosaic.Lib.Pointwise
public import Idealize.ShloMosaic.Lib.IdealHost
public import Idealize.ShloMosaic.PureOps.Ideal.Laws

@[expose] public section

noncomputable section

namespace Cert.Value

open Idealize.ShloMosaic

/-- The two constants: the row length and the constant under the root. -/
def len : EReal := Ideal.ofBits .f32 0x45000000#32
def eps : EReal := Ideal.ofBits .f32 0x358637BD#32

theorem len_eq : len = ((2048 : ℝ) : EReal) := by
  unfold len; simp [Ideal.ofBits, Ideal.ieee, -EReal.coe_mul]; norm_num

theorem eps_eq : eps = ((8796093 * (2 : ℝ) ^ (-43 : ℤ) : ℝ) : EReal) := by
  unfold eps; simp [Ideal.ofBits, Ideal.ieee, -EReal.coe_mul]

theorem eps_pos : 0 < eps := by
  rw [eps_eq]; exact_mod_cast (by norm_num : (0 : ℝ) < 8796093 * (2 : ℝ) ^ (-43 : ℤ))

/-- The mean square of a row plus the constant. -/
def radicand (f : Fin 2048 → EReal) : EReal := Ideal.div (∑ k, f k * f k) len + eps

/-- A row divided by its root mean square, times gamma. -/
def normRow (f g : Fin 2048 → EReal) (k : Fin 2048) : EReal := Ideal.div (f k) (Ideal.sqrt (radicand f)) * g k

theorem mul_self_nonneg (x : EReal) : 0 ≤ x * x := by
  induction x using EReal.rec with
  | bot => simp
  | coe r => rw [← EReal.coe_mul]; exact_mod_cast _root_.mul_self_nonneg r
  | top => simp

theorem radicand_pos (f : Fin 2048 → EReal) : 0 < radicand f := by
  unfold radicand
  rw [len_eq, Ideal.div_coe (by norm_num)]
  refine lt_of_lt_of_le eps_pos (le_add_of_nonneg_left (mul_nonneg (Finset.sum_nonneg fun k _ => mul_self_nonneg _) ?_))
  exact_mod_cast (by norm_num : (0 : ℝ) ≤ 1 / 2048)

theorem mul_rsqrt (x t : EReal) (h : 0 < t) : x * Ideal.rsqrt t = Ideal.div x (Ideal.sqrt t) := by
  induction t using EReal.rec with
  | bot => simp at h
  | coe r =>
    have hr : 0 < r := by exact_mod_cast h
    have hs : Real.sqrt r ≠ 0 := (Real.sqrt_pos.mpr hr).ne'
    have h1 : Ideal.sqrt (r : EReal) = (Real.sqrt r : EReal) := if_neg (not_lt.mpr hr.le)
    have h2 : Ideal.rsqrt (r : EReal) = (((Real.sqrt r)⁻¹ : ℝ) : EReal) := (if_neg (not_lt.mpr hr.le)).trans (if_neg hr.ne')
    rw [h1, h2, Ideal.div_coe hs, one_div]
  | top =>
    have h1 : Ideal.sqrt ⊤ = ⊤ := rfl
    have h2 : Ideal.rsqrt ⊤ = 0 := rfl
    rw [h1, h2]; unfold Ideal.div; simp

theorem normRow_rsqrt (f g : Fin 2048 → EReal) (k : Fin 2048) : f k * Ideal.rsqrt (radicand f) * g k = normRow f g k := by
  unfold normRow; rw [mul_rsqrt _ _ (radicand_pos f)]

end Cert.Value

end
-- ==== Proof.KernelValue.lean ====
/-
# What a chunk of the kernel's result is

The value a device computes for a chunk, read at an index: the row of sums, normalised.
-/
module

public import proofs.«01_k».proof.Proof.Steps
public import proofs.«01_k».proof.Proof.Norm
public import Idealize.ShloMosaic.Lib.Pointwise.IndexVar
public import Idealize.ShloMosaic.Lib.ValueLayout
public import Idealize.ShloMosaic.Lib.ValueLayoutCasts

@[expose] public section

noncomputable section

namespace Cert.Value

open Cert.KernelIdeal Cert.KernelIdeal.Gen Cert.KernelIdeal.Chunked
open Idealize.ShloMosaic Idealize.ShloMosaic.TcCoe

theorem sz_ne_one : ∀ i : Fin 18, ¬ sz i = 1 := by decide

theorem squares_apply (i : Fin 18) (s : FVec Ideal (CS i) .f32) (r : Fin (sz i)) :
    squares i s (ix2 r (0 : Fin 1)) = ∑ k : Fin 2048, s (ix2 r k) * s (ix2 r k) := by
  unfold squares
  refine (ValueIdx.shapeCast_a_a1_apply _ _ r 0).trans ?_
  pointwise

theorem column_apply (i : Fin 18) (q : (CC i).Idx → EReal) (r : Fin (sz i)) (k : Fin 2048) :
    broadcastTo (CS i) q (cc_broadcasts i) (ix2 r k) = q (ix2 r (0 : Fin 1)) :=
  broadcastTo_apply q (cc_broadcasts i) _ _ fun a => by
    match a with
    | ⟨0, _⟩ => exact (if_neg (sz_ne_one i)).symm
    | ⟨1, _⟩ => rfl

theorem xSent_apply (i : Fin 18) (v : FVec Ideal (CS i) .f32) (w : FVec Ideal (CS i) .bf16) (g : FVec Ideal S2048 .f32) (r : Fin (sz i)) (k : Fin 2048) :
    xSent (F := Ideal) i v w g (ix2 r k) = normRow (fun j => v (ix2 r j) + w (ix2 r j)) (fun j => g (ix1 j)) k := by
  rw [← normRow_rsqrt]
  unfold xSent normed
  refine (congrFun (shapeCast_id _ _) _).trans ?_
  refine congrArg₂ (fun a b : EReal => a * b) (congrArg₂ (fun a b : EReal => a * b) rfl ((column_apply i _ r k).trans ?_)) ?_
  · exact congrArg (fun q : EReal => Ideal.rsqrt (Ideal.div q len + eps)) (squares_apply i _ r)
  · pointwise

theorem ySent_apply (i : Fin 18) (v : FVec Ideal (CS i) .f32) (r : Fin (sz i)) (k : Fin 2048) : ySent (F := Ideal) i v (ix2 r k) = v (ix2 r k) := by
  unfold ySent
  pointwise

end Cert.Value

end
-- ==== Proof.RefValue.lean ====
/-
# What the reference computes

The reference's result at an index: the row of sums of the two partial arrays, normalised.
-/
module

public import proofs.«01_k».proof.Proof.Gen.ReferenceIdeal.Run
public import proofs.«01_k».proof.Proof.Norm

@[expose] public section

noncomputable section

namespace Cert.Value

open Cert.ReferenceIdeal Cert.ReferenceIdeal.Gen
open Idealize.ShloMosaic Idealize.ShloMosaic.TcCoe

/-- A row of the sum of the two partial arrays. -/
def sumRow (X : FVec Ideal S2x4096x2048 .f32) (r : Fin 4096) (k : Fin 2048) : EReal := X (ix3 0 r k) + X (ix3 1 r k)

/-- The reference's result. -/
def refOut (X : FVec Ideal S2x4096x2048 .f32) (g : FVec Ideal S2048 .f32) : FVec Ideal S4096x2048 .bf16 :=
  truncf .bf16 (mulf (Host.divf (Host.reduceAdd X (constant S_ .f32 0x00000000#32) reducesTo_S2x4096x2048_S4096x2048_d0 h_S_) (broadcastInDim S4096x2048 ![0, 1] bcast_S4096x1_S4096x2048_0_1 (Host.sqrt (addf (Host.divf (broadcastInDim S4096x1 ![0] bcast_S4096_S4096x1_0 (Host.reduceAdd (mulf (Host.reduceAdd X (constant S_ .f32 0x00000000#32) reducesTo_S2x4096x2048_S4096x2048_d0 h_S_) (Host.reduceAdd X (constant S_ .f32 0x00000000#32) reducesTo_S2x4096x2048_S4096x2048_d0 h_S_)) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x2048 ![0, 1] bcast_S1x2048_S4096x2048_0_1 (broadcastInDim S1x2048 ![1] bcast_S2048_S1x2048_1 g))) bitsLt_bf16_f32

theorem refOut_apply (X : FVec Ideal S2x4096x2048 .f32) (g : FVec Ideal S2048 .f32) (r : Fin 4096) (k : Fin 2048) :
    refOut X g (ix2 r k) = normRow (sumRow X r) (fun j => g (ix1 j)) k := by
  unfold refOut normRow radicand sumRow len eps
  pointwise
  simp only [Fin.sum_univ_two]

end Cert.Value

end
-- ==== Proof.Value.lean ====
/-
# The kernel's result is the reference's

Where the chunks of the partial sums and of the result lie in the devices' arrays, and the equation: when every device's
partial sums are its block of the whole ones, what the devices end with is their block of the reference's result.
-/
module

public import proofs.«01_k».proof.Proof.Run
public import proofs.«01_k».proof.Proof.KernelValue
public import proofs.«01_k».proof.Proof.RefValue
public import Idealize.ShloMosaic.Lib.ViewIndex
public import Idealize.ShloMosaic.Lib.ValueLayout

@[expose] public section

noncomputable section

namespace Cert.Value

open Cert.KernelIdeal Cert.KernelIdeal.Gen Cert.KernelIdeal.Chunked
open Idealize.ShloMosaic Idealize.ShloMosaic.TcCoe
open Idealize.SL Idealize.SL.Sem

/-! ## Where the chunks lie -/

/-- The first row of the whole result that device `c` computes a chunk of, -/
def base (c : Dev nD) (i : Fin 18) : ℕ := 2048 * (c.val % 2) + qOwn c + off i

theorem base_le : ∀ (c : Dev nD) (i : Fin 18), base c i + sz i ≤ 4096 := by decide +kernel

/-- and a row of the chunk. -/
def rowAt (c : Dev nD) (i : Fin 18) (r : Fin (sz i)) : Fin 4096 := ⟨base c i + r.val, by have := base_le c i; have := r.isLt; omega⟩

theorem off1_eq : ∀ (c : Dev nD) (i : Fin 18), k0_off1 (yDev c) (offW i) = ![0, base c i, 0] := by decide +kernel
theorem off4_eq : ∀ (c : Dev nD) (i : Fin 18), k0_off4 c (offW i) = ![0, base c i, 0] := by decide +kernel

/-- A row and a column of a chunk, among the chunk's indices before its leading unit axis is dropped. -/
theorem squeeze_emb {a b : ℕ} (h : (⟨2, ![a, b]⟩ : Shape).numel = (⟨3, ![1, a, b]⟩ : Shape).numel) (r : Fin a) (k : Fin b) :
    Shape.reshapeEquiv h (ix2 r k) = ix3 0 r k := by
  have h2 : (ix2 r k : (⟨2, ![a, b]⟩ : Shape).Idx) = ValueIdx.ix2 r k := rfl
  rw [h2]
  exact (ValueIdx.reshapeEquiv_ix2_1ab h r k).trans (Shape.idx3_ext rfl rfl rfl)

section Reads
variable {Val : EltTy → Type} (c : Dev nD) (i : Fin 18) (r : Fin (sz i)) (k : Fin 2048)

theorem read_own (f : S1x4096x2048.Idx → Val .f32) : (pOwn c i).view.read Val f (ix2 r k) = f (ix3 0 (rowAt c i r) k) := by
  show f ((ownRows c i).emb (Shape.reshapeEquiv _ (ix2 r k))) = _
  rw [squeeze_emb]
  refine congrArg f (Shape.idx3_ext ?_ ?_ ?_)
  · show k0_off4 c (offW i) 0 + 1 * 0 = 0; rw [off4_eq]; rfl
  · show k0_off4 c (offW i) 1 + 1 * r.val = base c i + r.val; rw [off4_eq, Nat.one_mul]; rfl
  · show k0_off4 c (offW i) 2 + 1 * k.val = k.val; rw [off4_eq, Nat.one_mul]; exact Nat.zero_add _

theorem read_peer (f : S1x4096x2048.Idx → Val .f32) : (pPeer (yDev c) i).view.read Val f (ix2 r k) = f (ix3 0 (rowAt c i r) k) := by
  show f ((peerRows (yDev c) i).emb (Shape.reshapeEquiv _ (ix2 r k))) = _
  rw [squeeze_emb]
  refine congrArg f (Shape.idx3_ext ?_ ?_ ?_)
  · show k0_off1 (yDev c) (offW i) 0 + 1 * 0 = 0; rw [off1_eq]; rfl
  · show k0_off1 (yDev c) (offW i) 1 + 1 * r.val = base c i + r.val; rw [off1_eq, Nat.one_mul]; rfl
  · show k0_off1 (yDev c) (offW i) 2 + 1 * k.val = k.val; rw [off1_eq, Nat.one_mul]; exact Nat.zero_add _

/-- An index of the result inside a chunk reads as the chunk does. -/
theorem read_oOwn (f : S2048x2048.Idx → Val .bf16) (R : Fin 2048) (h : R.val = qOwn c + off i + r.val) :
    (oOwn c i).view.read Val f (ix2 r k) = f (ix2 R k) := by
  refine congrArg f (funext fun a => Fin.ext ?_)
  match a with
  | ⟨0, _⟩ => show k0_off7 c (offW i) 0 + 1 * r.val = R.val; rw [off7_eq, Nat.one_mul, h]; rfl
  | ⟨1, _⟩ => show k0_off7 c (offW i) 1 + 1 * k.val = k.val; rw [off7_eq, Nat.one_mul]; exact Nat.zero_add _

theorem read_oPeer (f : S2048x2048.Idx → Val .bf16) (R : Fin 2048) (h : R.val = qPeer c + off i + r.val) :
    (oPeer c i).view.read Val f (ix2 r k) = f (ix2 R k) := by
  refine congrArg f (funext fun a => Fin.ext ?_)
  match a with
  | ⟨0, _⟩ => show k0_off10 c (offW i) 0 + 1 * r.val = R.val; rw [off10_eq, Nat.one_mul, h]; rfl
  | ⟨1, _⟩ => show k0_off10 c (offW i) 1 + 1 * k.val = k.val; rw [off10_eq, Nat.one_mul]; exact Nat.zero_add _

end Reads

/-! ## The devices' blocks -/

section Blocks
variable (c : Dev nD)

/-- Device `c`'s partial sums among the two, and its half of the result. -/
def half : Fin 2 := ⟨c.val % 2, Nat.mod_lt _ (by decide)⟩

theorem block_arg {α : Type} (X : (⟨3, ![2, 4096, 2048]⟩ : Shape).Idx → α) (r : Fin 4096) (k : Fin 2048) :
    Layout.blockN ⟨3, ![1, 4096, 2048]⟩ ⟨3, ![2, 4096, 2048]⟩ (Layout.meshBlock [2, 2] ![[1], [], []] c) X (by decide) (ix3 0 r k) = X (ix3 (half c) r k) := by
  have h : ∀ c : Dev nD, (Layout.meshBlock [2, 2] ![[1], [], []] c (h := by decide) 0).val = c.val % 2 := by decide
  refine congrArg X (Shape.idx3_ext ?_ ?_ ?_)
  · show (Layout.meshBlock [2, 2] ![[1], [], []] c (h := by decide) 0).val * 1 + 0 = c.val % 2; rw [h]; omega
  · show 0 * 4096 + r.val = r.val; omega
  · show 0 * 2048 + k.val = k.val; omega

theorem block_result {α : Type} (v : (⟨2, ![4096, 2048]⟩ : Shape).Idx → α) (R : Fin 2048) (k : Fin 2048) (r : Fin 4096) (hr : r.val = 2048 * (c.val % 2) + R.val) :
    Layout.blockN ⟨2, ![2048, 2048]⟩ ⟨2, ![4096, 2048]⟩ (Layout.meshBlock [2, 2] ![[1], []] c) v (by decide) (ix2 R k) = v (ix2 r k) := by
  have h : ∀ c : Dev nD, (Layout.meshBlock [2, 2] ![[1], []] c (h := by decide) 0).val = c.val % 2 := by decide
  refine congrArg v (funext fun a => Fin.ext ?_)
  match a with
  | ⟨0, _⟩ => show (Layout.meshBlock [2, 2] ![[1], []] c (h := by decide) 0).val * 2048 + R.val = r.val; rw [h, hr]; omega
  | ⟨1, _⟩ => show 0 * 2048 + k.val = k.val; omega

end Blocks

/-! ## The equation -/

section Equation
variable (m : (ℓ : Loc nD τ sig) → Buf (Elt Ideal) ℓ) (X : FVec Ideal Cert.ReferenceIdeal.S2x4096x2048 .f32) (g : FVec Ideal S2048 .f32)
variable (hX : ∀ c : Dev nD, m ((c : Thread nD τ).loc main_arg0)
    = Layout.blockN ⟨3, ![1, 4096, 2048]⟩ ⟨3, ![2, 4096, 2048]⟩ (Layout.meshBlock [2, 2] ![[1], [], []] c) X)
variable (hg : ∀ c : Dev nD, m ((c : Thread nD τ).loc main_arg1) = g)

include hX in
theorem ov_apply (c : Dev nD) (i : Fin 18) (r : Fin (sz i)) (k : Fin 2048) : ov m c i (ix2 r k) = X (ix3 (half c) (rowAt c i r) k) := by
  unfold ov
  refine (read_own (Val := Elt Ideal) c i r k _).trans ?_
  rw [hX]; exact block_arg c X _ k

include hX in
theorem yv_apply (c : Dev nD) (i : Fin 18) (r : Fin (sz i)) (k : Fin 2048) : yv m (yDev c) i (ix2 r k) = X (ix3 (half (yDev c)) (rowAt c i r) k) := by
  unfold yv
  refine (ySent_apply i _ r k).trans ?_
  unfold pv
  refine (read_peer (Val := Elt Ideal) c i r k _).trans ?_
  rw [hX]; exact block_arg (yDev c) X _ k

include hg in
theorem gv_apply (c : Dev nD) (k : Fin 2048) : gv m c (ix1 k) = g (ix1 k) := by
  have h : gst m c = g := by
    rw [← hg c]
    exact funext fun x => congrArg (m ((c : Thread nD τ).loc main_arg1)) (Shape.idx1_ext (Nat.zero_add _ |>.trans (Nat.one_mul _)))
  unfold gv
  rw [h]
  exact congrFun (Memref.readAt_unit_zero (Elt Ideal) cc0_stg0_0 (by decide) _ g) (ix1 k)

theorem half_cases : ∀ c : Dev nD, (half c = 0 ∧ half (yDev c) = 1) ∨ (half c = 1 ∧ half (yDev c) = 0) := by decide

include hX hg in
/-- What a device computes for a chunk is those rows of the reference's result. -/
theorem xv_apply (c : Dev nD) (i : Fin 18) (r : Fin (sz i)) (k : Fin 2048) : xv m c i (ix2 r k) = refOut X g (ix2 (rowAt c i r) k) := by
  unfold xv
  rw [refOut_apply]
  refine (xSent_apply i _ _ _ r k).trans ?_
  refine congrArg₂ (fun f h => normRow f h k) (funext fun j => ?_) (funext fun j => gv_apply m g hg c j)
  unfold sumRow
  rw [ov_apply m X hX, yv_apply m X hX]
  rcases half_cases c with ⟨h1, h2⟩ | ⟨h1, h2⟩
  · rw [h1, h2]
  · rw [h1, h2]; exact add_comm _ _

theorem half_x : ∀ c : Dev nD, 2048 * ((xDev c).val % 2) + qOwn (xDev c) = 2048 * (c.val % 2) + qPeer c := by decide

include hX hg in
/-- A device's result, from its chunks, is its block of the reference's. -/
theorem result_eq (c : Dev nD) (f : S2048x2048.Idx → EReal)
    (h1 : ∀ i, (oOwn c i).view.read (Elt Ideal) f = xv m c i) (h2 : ∀ i, (oPeer c i).view.read (Elt Ideal) f = xv m (xDev c) i) :
    f = Layout.blockN ⟨2, ![2048, 2048]⟩ ⟨2, ![4096, 2048]⟩ (Layout.meshBlock [2, 2] ![[1], []] c) (refOut X g) := by
  funext x
  obtain ⟨R, k, rfl⟩ : ∃ R k, x = ix2 R k := ⟨x 0, x 1, eq_ix2 x⟩
  obtain ⟨⟨b, i⟩, hl, hu⟩ := outOff_find c R.val R.isLt
  dsimp only at hu
  have hr : R.val - outOff c (b, i) < sz i := by omega
  cases b with
  | true =>
    have ho : outOff c (true, i) = qOwn c + off i := rfl
    refine (read_oOwn (Val := Elt Ideal) c i ⟨_, hr⟩ k f R (by dsimp only; omega)).symm.trans ?_
    rw [h1]
    refine (xv_apply m X g hX hg c i ⟨_, hr⟩ k).trans (block_result c _ R k _ ?_).symm
    show base c i + (R.val - outOff c (true, i)) = _
    unfold base; omega
  | false =>
    have ho : outOff c (false, i) = qPeer c + off i := rfl
    refine (read_oPeer (Val := Elt Ideal) c i ⟨_, hr⟩ k f R (by dsimp only; omega)).symm.trans ?_
    rw [h2]
    refine (xv_apply m X g hX hg (xDev c) i ⟨_, hr⟩ k).trans (block_result c _ R k _ ?_).symm
    show base (xDev c) i + (R.val - outOff c (false, i)) = _
    have := half_x c
    unfold base; omega

end Equation

end Cert.Value

end
-- ==== Proof.lean ====
/-
# The certificate

Assembles `Cert.Claim`: the three frames, the (empty) idealization and the algebraic equality.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Run
public import proofs.«01_k».proof.Proof.Same
public import proofs.«01_k».proof.Proof.Value
public import proofs.«01_k».proof.Proof.Gen.ReferenceIdeal.Run

@[expose] public section

noncomputable section

namespace Cert.Proof

open Idealize.ShloMosaic Idealize.SL.Sem Cert.Kernel

/-- The kernel terminates, faults nowhere, and leaves its arguments unchanged and every semaphore at zero, over the machine's words, -/
theorem frame_kernel : Cert.quiescent_Kernel := fun m ρ _ => by
  have h := Cert.KernelIdeal.Chunked.run_main (F := Bits) m ρ
  rw [← Cert.KernelIdeal.Chunked.defs_eq] at h
  exact (θ_run Cert.Kernel.defs _ _).mono (fun _ h => ⟨fun c => ⟨(h.1 c).1, (h.1 c).2.1⟩, h.2⟩) h

/-- over the extended reals, -/
theorem frame_kernelIdeal : Cert.quiescent_KernelIdeal := fun m ρ _ =>
  (θ_run Cert.KernelIdeal.defs _ _).mono (fun _ h => ⟨fun c => ⟨(h.1 c).1, (h.1 c).2.1⟩, h.2⟩) (Cert.KernelIdeal.Chunked.run_main (F := Ideal) m ρ)

/-- and so does the reference, which has no semaphores. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device ends with its block of what the reference computes. -/
theorem equal : Cert.algebraic_KernelIdeal_ReferenceIdeal := fun m ρ m' ρ' _ hagree => by
  refine ⟨Cert.Value.refOut (m' ((0 : Dev Cert.ReferenceIdeal.nD).tc.loc Cert.ReferenceIdeal.main_arg0)) (m' ((0 : Dev Cert.ReferenceIdeal.nD).tc.loc Cert.ReferenceIdeal.main_arg1)), ?_,
    (θ_run Cert.ReferenceIdeal.defs _ _).mono (fun _ h => h 0) (Cert.ReferenceIdeal.Value.run (F := Ideal) m' ρ')⟩
  exact (θ_run Cert.KernelIdeal.defs _ _).mono
    (fun _ h c => ⟨Cert.Value.result_eq m _ _ (fun c => (hagree c).1) (fun c => (hagree c).2) c _ (h.1 c).2.2.1 (h.1 c).2.2.2, (h.1 c).1, (h.1 c).2.1⟩)
    (Cert.KernelIdeal.Chunked.run_main (F := Ideal) m ρ)

theorem claim : Cert.Claim := ⟨Cert.Kernel.Gen.facts, Cert.KernelIdeal.Gen.facts, Cert.ReferenceIdeal.Gen.facts,
  frame_kernel, frame_kernelIdeal, frame_referenceIdeal, trivial, equal⟩

end Cert.Proof

end
